-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x1440 : Shape := ⟨3, ![6, 256, 1440]⟩
abbrev S6x256x180 : Shape := ⟨3, ![6, 256, 180]⟩
abbrev S2 : Shape := ⟨1, ![2]⟩
abbrev S5760x1440 : Shape := ⟨2, ![5760, 1440]⟩
abbrev S360x180 : Shape := ⟨2, ![360, 180]⟩
abbrev S1 : Shape := ⟨1, ![1]⟩
abbrev S1536x1440 : Shape := ⟨2, ![1536, 1440]⟩
abbrev S1536x180 : Shape := ⟨2, ![1536, 180]⟩
abbrev S1536x5760 : Shape := ⟨2, ![1536, 5760]⟩
abbrev S384x1440 : Shape := ⟨2, ![384, 1440]⟩
abbrev S1536x384 : Shape := ⟨2, ![1536, 384]⟩
abbrev S1536x3072 : Shape := ⟨2, ![1536, 3072]⟩
abbrev S360x1536 : Shape := ⟨2, ![360, 1536]⟩
abbrev S384x3072 : Shape := ⟨2, ![384, 3072]⟩
abbrev S256x128 : Shape := ⟨2, ![256, 128]⟩
abbrev S256x128x1 : Shape := ⟨3, ![256, 128, 1]⟩
abbrev S64x128 : Shape := ⟨2, ![64, 128]⟩
abbrev S256x52 : Shape := ⟨2, ![256, 52]⟩
abbrev S256x76 : Shape := ⟨2, ![256, 76]⟩
abbrev S256x32 : Shape := ⟨2, ![256, 32]⟩
abbrev S64x32 : Shape := ⟨2, ![64, 32]⟩
abbrev S64x96 : Shape := ⟨2, ![64, 96]⟩
abbrev S360x128 : Shape := ⟨2, ![360, 128]⟩
abbrev S360x128x1 : Shape := ⟨3, ![360, 128, 1]⟩
abbrev S360x52 : Shape := ⟨2, ![360, 52]⟩
abbrev S360x76 : Shape := ⟨2, ![360, 76]⟩
abbrev S384x128 : Shape := ⟨2, ![384, 128]⟩
abbrev S96x128 : Shape := ⟨2, ![96, 128]⟩
abbrev S8x128 : Shape := ⟨2, ![8, 128]⟩
abbrev S1x128 : Shape := ⟨2, ![1, 128]⟩
abbrev S16x128 : Shape := ⟨2, ![16, 128]⟩
abbrev S384x32 : Shape := ⟨2, ![384, 32]⟩
abbrev S96x32 : Shape := ⟨2, ![96, 32]⟩
abbrev S96x96 : Shape := ⟨2, ![96, 96]⟩
abbrev S128x384 : Shape := ⟨2, ![128, 384]⟩
abbrev S6x256x5760 : Shape := ⟨3, ![6, 256, 5760]⟩

abbrev nBuf : Space → Nat
  | .hbm => 10
  | .vmem => 10
  | .smem => 2
  | _ => 0

abbrev bufTy : (tb : Table) → Fin (tcTables nBuf tb) → BufTy
  | .hbm, ⟨0, _⟩ => ⟨S6x256x1440, .i8⟩
  | .hbm, ⟨1, _⟩ => ⟨S6x256x180, .fp8e4m3⟩
  | .hbm, ⟨2, _⟩ => ⟨S2, .f32⟩
  | .hbm, ⟨3, _⟩ => ⟨S5760x1440, .i8⟩
  | .hbm, ⟨4, _⟩ => ⟨S360x180, .fp8e4m3⟩
  | .hbm, ⟨5, _⟩ => ⟨S1, .f32⟩
  | .hbm, ⟨6, _⟩ => ⟨S1536x1440, .i8⟩
  | .hbm, ⟨7, _⟩ => ⟨S1536x180, .fp8e4m3⟩
  | .hbm, ⟨8, _⟩ => ⟨S1536x5760, .bf16⟩
  | .hbm, ⟨9, _⟩ => ⟨S6x256x5760, .bf16⟩
  | .local _ .vmem, ⟨0, _⟩ => ⟨S1536x1440, .i8⟩
  | .local _ .vmem, ⟨1, _⟩ => ⟨S1536x180, .fp8e4m3⟩
  | .local _ .vmem, ⟨2, _⟩ => ⟨S384x1440, .i8⟩
  | .local _ .vmem, ⟨3, _⟩ => ⟨S384x1440, .i8⟩
  | .local _ .vmem, ⟨4, _⟩ => ⟨S360x180, .fp8e4m3⟩
  | .local _ .vmem, ⟨5, _⟩ => ⟨S1536x384, .bf16⟩
  | .local _ .vmem, ⟨6, _⟩ => ⟨S1536x384, .bf16⟩
  | .local _ .vmem, ⟨7, _⟩ => ⟨S1536x3072, .bf16⟩
  | .local _ .vmem, ⟨8, _⟩ => ⟨S360x1536, .f32⟩
  | .local _ .vmem, ⟨9, _⟩ => ⟨S384x3072, .bf16⟩
  | .local _ .smem, ⟨0, _⟩ => ⟨S2, .f32⟩
  | .local _ .smem, ⟨1, _⟩ => ⟨S1, .f32⟩
  | _, _ => ⟨S6x256x1440, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1825 : BitVec 32 := 0#32
  let c6_i32 : BitVec 32 := 6#32
  let v5554 : BitVec 32 := Scalar.addi c0_i32_1825 c6_i32
  let c1_i32 : BitVec 32 := 1#32
  ⟨c0_i32_1825, v5554, c1_i32⟩
def k0_mult1 (k0_t1 : Fin k0_t1_loop.trips) : BitVec 32 :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  v6074
def k0_off1 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6076 : Index := Scalar.indexCast v6075
  let c0_2008 : Index := 0#32
  ![v6076.toNat, 0]
def k0_off2 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6116 : Index := Scalar.indexCast v6075
  let c0_2019 : Index := 0#32
  ![v6116.toNat, 0]
def k0_off3 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6141 : Index := Scalar.indexCast v6075
  let c0_2027 : Index := 0#32
  ![v6141.toNat, 0]
def k0_off4 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6146 : Index := Scalar.indexCast v6075
  let c128_2028 : Index := 128#32
  ![v6146.toNat, 128]
def k0_off5 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6190 : Index := Scalar.indexCast v6075
  let c128_2040 : Index := 128#32
  ![v6190.toNat, 128]
def k0_off6 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6215 : Index := Scalar.indexCast v6075
  let c256_2048 : Index := 256#32
  ![v6215.toNat, 256]
def k0_off7 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6220 : Index := Scalar.indexCast v6075
  let c384_2049 : Index := 384#32
  ![v6220.toNat, 384]
def k0_off8 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6264 : Index := Scalar.indexCast v6075
  let c256_2061 : Index := 256#32
  ![v6264.toNat, 256]
def k0_off9 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6289 : Index := Scalar.indexCast v6075
  let c512_2069 : Index := 512#32
  ![v6289.toNat, 512]
def k0_off10 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6294 : Index := Scalar.indexCast v6075
  let c640_2070 : Index := 640#32
  ![v6294.toNat, 640]
def k0_off11 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6338 : Index := Scalar.indexCast v6075
  let c384_2082 : Index := 384#32
  ![v6338.toNat, 384]
def k0_off12 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6363 : Index := Scalar.indexCast v6075
  let c768_2090 : Index := 768#32
  ![v6363.toNat, 768]
def k0_off13 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6368 : Index := Scalar.indexCast v6075
  let c896_2091 : Index := 896#32
  ![v6368.toNat, 896]
def k0_off14 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6412 : Index := Scalar.indexCast v6075
  let c512_2103 : Index := 512#32
  ![v6412.toNat, 512]
def k0_off15 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6437 : Index := Scalar.indexCast v6075
  let c1024_2111 : Index := 1024#32
  ![v6437.toNat, 1024]
def k0_off16 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6442 : Index := Scalar.indexCast v6075
  let c1152_2112 : Index := 1152#32
  ![v6442.toNat, 1152]
def k0_off17 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6486 : Index := Scalar.indexCast v6075
  let c640_2124 : Index := 640#32
  ![v6486.toNat, 640]
def k0_off18 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6511 : Index := Scalar.indexCast v6075
  let c1280_2132 : Index := 1280#32
  ![v6511.toNat, 1280]
def k0_off19 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6516 : Index := Scalar.indexCast v6075
  let c1408_2133 : Index := 1408#32
  ![v6516.toNat, 1408]
def k0_off20 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6560 : Index := Scalar.indexCast v6075
  let c768_2145 : Index := 768#32
  ![v6560.toNat, 768]
def k0_off21 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6585 : Index := Scalar.indexCast v6075
  let c1536_2153 : Index := 1536#32
  ![v6585.toNat, 1536]
def k0_off22 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6590 : Index := Scalar.indexCast v6075
  let c1664_2154 : Index := 1664#32
  ![v6590.toNat, 1664]
def k0_off23 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6634 : Index := Scalar.indexCast v6075
  let c896_2166 : Index := 896#32
  ![v6634.toNat, 896]
def k0_off24 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6659 : Index := Scalar.indexCast v6075
  let c1792_2174 : Index := 1792#32
  ![v6659.toNat, 1792]
def k0_off25 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6664 : Index := Scalar.indexCast v6075
  let c1920_2175 : Index := 1920#32
  ![v6664.toNat, 1920]
def k0_off26 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6668 : Index := Scalar.indexCast v6075
  let c128_2176 : Index := 128#32
  ![v6668.toNat, 128]
def k0_off27 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6710 : Index := Scalar.indexCast v6075
  let c1024_2188 : Index := 1024#32
  ![v6710.toNat, 1024]
def k0_off28 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6735 : Index := Scalar.indexCast v6075
  let c2048_2196 : Index := 2048#32
  ![v6735.toNat, 2048]
def k0_off29 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6740 : Index := Scalar.indexCast v6075
  let c2176_2197 : Index := 2176#32
  ![v6740.toNat, 2176]
def k0_off30 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6786 : Index := Scalar.indexCast v6075
  let c1152_2210 : Index := 1152#32
  ![v6786.toNat, 1152]
def k0_off31 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6811 : Index := Scalar.indexCast v6075
  let c2304_2218 : Index := 2304#32
  ![v6811.toNat, 2304]
def k0_off32 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6816 : Index := Scalar.indexCast v6075
  let c2432_2219 : Index := 2432#32
  ![v6816.toNat, 2432]
def k0_off33 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6862 : Index := Scalar.indexCast v6075
  let c1280_2232 : Index := 1280#32
  ![v6862.toNat, 1280]
def k0_off34 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6887 : Index := Scalar.indexCast v6075
  let c2560_2240 : Index := 2560#32
  ![v6887.toNat, 2560]
def k0_off35 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6892 : Index := Scalar.indexCast v6075
  let c2688_2241 : Index := 2688#32
  ![v6892.toNat, 2688]
def k0_off36 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6943 : Index := Scalar.indexCast v6075
  let c1408_2256 : Index := 1408#32
  ![v6943.toNat, 1408]
def k0_off37 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6970 : Index := Scalar.indexCast v6075
  let c2816_2265 : Index := 2816#32
  ![v6970.toNat, 2816]
def k0_off38 (k0_t1 : Fin k0_t1_loop.trips) : Fin 2 → Nat :=
  let c0_i32_2007 : BitVec 32 := 0#32
  let c0_i32_1825 : BitVec 32 := 0#32
  let c1_i32 : BitVec 32 := 1#32
  let arg11 : BitVec 32 := Scf.iv c0_i32_1825 c1_i32 k0_t1
  let c1_i32_2006 : BitVec 32 := 1#32
  let v6072 : BitVec 32 := Scalar.muli arg11 c1_i32_2006
  let v6073 : BitVec 32 := Scalar.addi c0_i32_2007 v6072
  let c256_i32 : BitVec 32 := 256#32
  let v6074 : BitVec 32 := Scalar.muli v6073 c256_i32
  let v6075 : BitVec 32 := v6074
  let v6975 : Index := Scalar.indexCast v6075
  let c2944_2266 : Index := 2944#32
  ![v6975.toNat, 2944]
def k0_mult2 (i : grid0.Coords) : BitVec 32 :=
  let arg0 : BitVec 32 := BitVec.ofNat 32 (i 0).val
  let c24_i32 : BitVec 32 := 24#32
  let v3 : BitVec 32 := Scalar.muli arg0 c24_i32
  let c0_i32_3 : BitVec 32 := 0#32
  let v26 : BitVec 32 := Scalar.addi v3 c0_i32_3
  v26
def k0_off39 (i : grid0.Coords) (c0_i32_3 : BitVec 32) : Fin 2 → Nat :=
  let arg0 : BitVec 32 := BitVec.ofNat 32 (i 0).val
  let c24_i32 : BitVec 32 := 24#32
  let v3 : BitVec 32 := Scalar.muli arg0 c24_i32
  let v26 : BitVec 32 := Scalar.addi v3 c0_i32_3
  let v27 : BitVec 32 := v26
  let v28 : Index := Scalar.indexCast v27
  let c0_4 : Index := 0#32
  ![v28.toNat, 0]
def k0_mult3 (i : grid0.Coords) : BitVec 32 :=
  let arg0 : BitVec 32 := BitVec.ofNat 32 (i 0).val
  let c24_i32 : BitVec 32 := 24#32
  let v3 : BitVec 32 := Scalar.muli arg0 c24_i32
  let c0_i32_8 : BitVec 32 := 0#32
  let v44 : BitVec 32 := Scalar.addi v3 c0_i32_8
  v44
def k0_mult4 (i : grid0.Coords) : BitVec 32 :=
  let arg0 : BitVec 32 := BitVec.ofNat 32 (i 0).val
  let c24_i32 : BitVec 32 := 24#32
  let v3 : BitVec 32 := Scalar.muli arg0 c24_i32
  let c0_i32_13 : BitVec 32 := 0#32
  let v62 : BitVec 32 := Scalar.addi v3 c0_i32_13
  v62
def k0_mult5 (i : grid0.Coords) : BitVec 32 :=
  let arg0 : BitVec 32 := BitVec.ofNat 32 (i 0).val
  let c24_i32 : BitVec 32 := 24#32
  let v3 : BitVec 32 := Scalar.muli arg0 c24_i32
  let c0_i32_18 : BitVec 32 := 0#32
  let v80 : BitVec 32 := Scalar.addi v3 c0_i32_18
  v80
def k0_mult6 (i : grid0.Coords) : BitVec 32 :=
  let arg0 : BitVec 32 := BitVec.ofNat 32 (i 0).val
  let c24_i32 : BitVec 32 := 24#32
  let v3 : BitVec 32 := Scalar.muli arg0 c24_i32
  let c0_i32_23 : BitVec 32 := 0#32
  let v98 : BitVec 32 := Scalar.addi v3 c0_i32_23
  v98
def k0_mult7 (i : grid0.Coords) : BitVec 32 :=
  let arg0 : BitVec 32 := BitVec.ofNat 32 (i 0).val
  let c24_i32 : BitVec 32 := 24#32
  let v3 : BitVec 32 := Scalar.muli arg0 c24_i32
  let c0_i32_28 : BitVec 32 := 0#32
  let v116 : BitVec 32 := Scalar.addi v3 c0_i32_28
  v116
def k0_mult8 (i : grid0.Coords) : BitVec 32 :=
  let arg0 : BitVec 32 := BitVec.ofNat 32 (i 0).val
  let c24_i32 : BitVec 32 := 24#32
  let v3 : BitVec 32 := Scalar.muli arg0 c24_i32
  let c0_i32_33 : BitVec 32 := 0#32
  let v134 : BitVec 32 := Scalar.addi v3 c0_i32_33
  v134
def k0_mult9 (i : grid0.Coords) : BitVec 32 :=
  let arg0 : BitVec 32 := BitVec.ofNat 32 (i 0).val
  let c24_i32 : BitVec 32 := 24#32
  let v3 : BitVec 32 := Scalar.muli arg0 c24_i32
  let c0_i32_38 : BitVec 32 := 0#32
  let v152 : BitVec 32 := Scalar.addi v3 c0_i32_38
  v152
def k0_mult10 (i : grid0.Coords) : BitVec 32 :=
  let arg0 : BitVec 32 := BitVec.ofNat 32 (i 0).val
  let c24_i32 : BitVec 32 := 24#32
  let v3 : BitVec 32 := Scalar.muli arg0 c24_i32
  let c8_i32 : BitVec 32 := 8#32
  let v170 : BitVec 32 := Scalar.addi v3 c8_i32
  v170
def k0_mult11 (i : grid0.Coords) : BitVec 32 :=
  let arg0 : BitVec 32 := BitVec.ofNat 32 (i 0).val
  let c24_i32 : BitVec 32 := 24#32
  let v3 : BitVec 32 := Scalar.muli arg0 c24_i32
  let c8_i32_48 : BitVec 32 := 8#32
  let v188 : BitVec 32 := Scalar.addi v3 c8_i32_48
  v188
def k0_mult12 (i : grid0.Coords) : BitVec 32 :=
  let arg0 : BitVec 32 := BitVec.ofNat 32 (i 0).val
  let c24_i32 : BitVec 32 := 24#32
  let v3 : BitVec 32 := Scalar.muli arg0 c24_i32
  let c8_i32_53 : BitVec 32 := 8#32
  let v206 : BitVec 32 := Scalar.addi v3 c8_i32_53
  v206
def k0_mult13 (i : grid0.Coords) : BitVec 32 :=
  let arg0 : BitVec 32 := BitVec.ofNat 32 (i 0).val
  let c24_i32 : BitVec 32 := 24#32
  let v3 : BitVec 32 := Scalar.muli arg0 c24_i32
  let c8_i32_58 : BitVec 32 := 8#32
  let v224 : BitVec 32 := Scalar.addi v3 c8_i32_58
  v224
def k0_mult14 (i : grid0.Coords) : BitVec 32 :=
  let arg0 : BitVec 32 := BitVec.ofNat 32 (i 0).val
  let c24_i32 : BitVec 32 := 24#32
  let v3 : BitVec 32 := Scalar.muli arg0 c24_i32
  let c8_i32_63 : BitVec 32 := 8#32
  let v242 : BitVec 32 := Scalar.addi v3 c8_i32_63
  v242
def k0_mult15 (i : grid0.Coords) : BitVec 32 :=
  let arg0 : BitVec 32 := BitVec.ofNat 32 (i 0).val
  let c24_i32 : BitVec 32 := 24#32
  let v3 : BitVec 32 := Scalar.muli arg0 c24_i32
  let c8_i32_68 : BitVec 32 := 8#32
  let v260 : BitVec 32 := Scalar.addi v3 c8_i32_68
  v260
def k0_mult16 (i : grid0.Coords) : BitVec 32 :=
  let arg0 : BitVec 32 := BitVec.ofNat 32 (i 0).val
  let c24_i32 : BitVec 32 := 24#32
  let v3 : BitVec 32 := Scalar.muli arg0 c24_i32
  let c8_i32_73 : BitVec 32 := 8#32
  let v278 : BitVec 32 := Scalar.addi v3 c8_i32_73
  v278
def k0_mult17 (i : grid0.Coords) : BitVec 32 :=
  let arg0 : BitVec 32 := BitVec.ofNat 32 (i 0).val
  let c24_i32 : BitVec 32 := 24#32
  let v3 : BitVec 32 := Scalar.muli arg0 c24_i32
  let c8_i32_78 : BitVec 32 := 8#32
  let v296 : BitVec 32 := Scalar.addi v3 c8_i32_78
  v296
def k0_mult18 (i : grid0.Coords) : BitVec 32 :=
  let arg0 : BitVec 32 := BitVec.ofNat 32 (i 0).val
  let c24_i32 : BitVec 32 := 24#32
  let v3 : BitVec 32 := Scalar.muli arg0 c24_i32
  let c16_i32 : BitVec 32 := 16#32
  let v314 : BitVec 32 := Scalar.addi v3 c16_i32
  v314
def k0_mult19 (i : grid0.Coords) : BitVec 32 :=
  let arg0 : BitVec 32 := BitVec.ofNat 32 (i 0).val
  let c24_i32 : BitVec 32 := 24#32
  let v3 : BitVec 32 := Scalar.muli arg0 c24_i32
  let c16_i32_87 : BitVec 32 := 16#32
  let v332 : BitVec 32 := Scalar.addi v3 c16_i32_87
  v332
def k0_mult20 (i : grid0.Coords) : BitVec 32 :=
  let arg0 : BitVec 32 := BitVec.ofNat 32 (i 0).val
  let c24_i32 : BitVec 32 := 24#32
  let v3 : BitVec 32 := Scalar.muli arg0 c24_i32
  let c16_i32_92 : BitVec 32 := 16#32
  let v350 : BitVec 32 := Scalar.addi v3 c16_i32_92
  v350
def k0_mult21 (i : grid0.Coords) : BitVec 32 :=
  let arg0 : BitVec 32 := BitVec.ofNat 32 (i 0).val
  let c24_i32 : BitVec 32 := 24#32
  let v3 : BitVec 32 := Scalar.muli arg0 c24_i32
  let c16_i32_97 : BitVec 32 := 16#32
  let v368 : BitVec 32 := Scalar.addi v3 c16_i32_97
  v368
def k0_mult22 (i : grid0.Coords) : BitVec 32 :=
  let arg0 : BitVec 32 := BitVec.ofNat 32 (i 0).val
  let c24_i32 : BitVec 32 := 24#32
  let v3 : BitVec 32 := Scalar.muli arg0 c24_i32
  let c16_i32_102 : BitVec 32 := 16#32
  let v386 : BitVec 32 := Scalar.addi v3 c16_i32_102
  v386
def k0_mult23 (i : grid0.Coords) : BitVec 32 :=
  let arg0 : BitVec 32 := BitVec.ofNat 32 (i 0).val
  let c24_i32 : BitVec 32 := 24#32
  let v3 : BitVec 32 := Scalar.muli arg0 c24_i32
  let c16_i32_107 : BitVec 32 := 16#32
  let v404 : BitVec 32 := Scalar.addi v3 c16_i32_107
  v404
def k0_mult24 (i : grid0.Coords) : BitVec 32 :=
  let arg0 : BitVec 32 := BitVec.ofNat 32 (i 0).val
  let c24_i32 : BitVec 32 := 24#32
  let v3 : BitVec 32 := Scalar.muli arg0 c24_i32
  let c16_i32_112 : BitVec 32 := 16#32
  let v422 : BitVec 32 := Scalar.addi v3 c16_i32_112
  v422
def k0_mult25 (i : grid0.Coords) : BitVec 32 :=
  let arg0 : BitVec 32 := BitVec.ofNat 32 (i 0).val
  let c24_i32 : BitVec 32 := 24#32
  let v3 : BitVec 32 := Scalar.muli arg0 c24_i32
  let c16_i32_117 : BitVec 32 := 16#32
  let v440 : BitVec 32 := Scalar.addi v3 c16_i32_117
  v440
def k0_mult26 (i : grid0.Coords) : BitVec 32 :=
  let arg0 : BitVec 32 := BitVec.ofNat 32 (i 0).val
  let c24_i32 : BitVec 32 := 24#32
  let v3 : BitVec 32 := Scalar.muli arg0 c24_i32
  let c0_i32_131 : BitVec 32 := 0#32
  let v480 : BitVec 32 := Scalar.addi v3 c0_i32_131
  v480
def k0_off40 (i : grid0.Coords) (c0_i32_131 : BitVec 32) : Fin 2 → Nat :=
  let arg0 : BitVec 32 := BitVec.ofNat 32 (i 0).val
  let c24_i32 : BitVec 32 := 24#32
  let v3 : BitVec 32 := Scalar.muli arg0 c24_i32
  let v480 : BitVec 32 := Scalar.addi v3 c0_i32_131
  let v481 : BitVec 32 := v480
  let v482 : Index := Scalar.indexCast v481
  let c128_132 : Index := 128#32
  ![v482.toNat, 128]
def k0_mult27 (i : grid0.Coords) : BitVec 32 :=
  let arg0 : BitVec 32 := BitVec.ofNat 32 (i 0).val
  let c24_i32 : BitVec 32 := 24#32
  let v3 : BitVec 32 := Scalar.muli arg0 c24_i32
  let c0_i32_136 : BitVec 32 := 0#32
  let v498 : BitVec 32 := Scalar.addi v3 c0_i32_136
  v498
def k0_mult28 (i : grid0.Coords) : BitVec 32 :=
  let arg0 : BitVec 32 := BitVec.ofNat 32 (i 0).val
  let c24_i32 : BitVec 32 := 24#32
  let v3 : BitVec 32 := Scalar.muli arg0 c24_i32
  let c0_i32_142 : BitVec 32 := 0#32
  let v516 : BitVec 32 := Scalar.addi v3 c0_i32_142
  v516
def k0_mult29 (i : grid0.Coords) : BitVec 32 :=
  let arg0 : BitVec 32 := BitVec.ofNat 32 (i 0).val
  let c24_i32 : BitVec 32 := 24#32
  let v3 : BitVec 32 := Scalar.muli arg0 c24_i32
  let c0_i32_148 : BitVec 32 := 0#32
  let v534 : BitVec 32 := Scalar.addi v3 c0_i32_148
  v534
def k0_mult30 (i : grid0.Coords) : BitVec 32 :=
  let arg0 : BitVec 32 := BitVec.ofNat 32 (i 0).val
  let c24_i32 : BitVec 32 := 24#32
  let v3 : BitVec 32 := Scalar.muli arg0 c24_i32
  let c0_i32_154 : BitVec 32 := 0#32
  let v552 : BitVec 32 := Scalar.addi v3 c0_i32_154
  v552
def k0_mult31 (i : grid0.Coords) : BitVec 32 :=
  let arg0 : BitVec 32 := BitVec.ofNat 32 (i 0).val
  let c24_i32 : BitVec 32 := 24#32
  let v3 : BitVec 32 := Scalar.muli arg0 c24_i32
  let c0_i32_160 : BitVec 32 := 0#32
  let v570 : BitVec 32 := Scalar.addi v3 c0_i32_160
  v570
def k0_mult32 (i : grid0.Coords) : BitVec 32 :=
  let arg0 : BitVec 32 := BitVec.ofNat 32 (i 0).val
  let c24_i32 : BitVec 32 := 24#32
  let v3 : BitVec 32 := Scalar.muli arg0 c24_i32
  let c0_i32_166 : BitVec 32 := 0#32
  let v588 : BitVec 32 := Scalar.addi v3 c0_i32_166
  v588
def k0_mult33 (i : grid0.Coords) : BitVec 32 :=
  let arg0 : BitVec 32 := BitVec.ofNat 32 (i 0).val
  let c24_i32 : BitVec 32 := 24#32
  let v3 : BitVec 32 := Scalar.muli arg0 c24_i32
  let c0_i32_172 : BitVec 32 := 0#32
  let v606 : BitVec 32 := Scalar.addi v3 c0_i32_172
  v606
def k0_mult34 (i : grid0.Coords) : BitVec 32 :=
  let arg0 : BitVec 32 := BitVec.ofNat 32 (i 0).val
  let c24_i32 : BitVec 32 := 24#32
  let v3 : BitVec 32 := Scalar.muli arg0 c24_i32
  let c8_i32_178 : BitVec 32 := 8#32
  let v624 : BitVec 32 := Scalar.addi v3 c8_i32_178
  v624
def k0_mult35 (i : grid0.Coords) : BitVec 32 :=
  let arg0 : BitVec 32 := BitVec.ofNat 32 (i 0).val
  let c24_i32 : BitVec 32 := 24#32
  let v3 : BitVec 32 := Scalar.muli arg0 c24_i32
  let c8_i32_184 : BitVec 32 := 8#32
  let v642 : BitVec 32 := Scalar.addi v3 c8_i32_184
  v642
def k0_mult36 (i : grid0.Coords) : BitVec 32 :=
  let arg0 : BitVec 32 := BitVec.ofNat 32 (i 0).val
  let c24_i32 : BitVec 32 := 24#32
  let v3 : BitVec 32 := Scalar.muli arg0 c24_i32
  let c8_i32_190 : BitVec 32 := 8#32
  let v660 : BitVec 32 := Scalar.addi v3 c8_i32_190
  v660
def k0_mult37 (i : grid0.Coords) : BitVec 32 :=
  let arg0 : BitVec 32 := BitVec.ofNat 32 (i 0).val
  let c24_i32 : BitVec 32 := 24#32
  let v3 : BitVec 32 := Scalar.muli arg0 c24_i32
  let c8_i32_196 : BitVec 32 := 8#32
  let v678 : BitVec 32 := Scalar.addi v3 c8_i32_196
  v678
def k0_mult38 (i : grid0.Coords) : BitVec 32 :=
  let arg0 : BitVec 32 := BitVec.ofNat 32 (i 0).val
  let c24_i32 : BitVec 32 := 24#32
  let v3 : BitVec 32 := Scalar.muli arg0 c24_i32
  let c8_i32_202 : BitVec 32 := 8#32
  let v696 : BitVec 32 := Scalar.addi v3 c8_i32_202
  v696
def k0_mult39 (i : grid0.Coords) : BitVec 32 :=
  let arg0 : BitVec 32 := BitVec.ofNat 32 (i 0).val
  let c24_i32 : BitVec 32 := 24#32
  let v3 : BitVec 32 := Scalar.muli arg0 c24_i32
  let c8_i32_208 : BitVec 32 := 8#32
  let v714 : BitVec 32 := Scalar.addi v3 c8_i32_208
  v714
def k0_mult40 (i : grid0.Coords) : BitVec 32 :=
  let arg0 : BitVec 32 := BitVec.ofNat 32 (i 0).val
  let c24_i32 : BitVec 32 := 24#32
  let v3 : BitVec 32 := Scalar.muli arg0 c24_i32
  let c8_i32_214 : BitVec 32 := 8#32
  let v732 : BitVec 32 := Scalar.addi v3 c8_i32_214
  v732
def k0_mult41 (i : grid0.Coords) : BitVec 32 :=
  let arg0 : BitVec 32 := BitVec.ofNat 32 (i 0).val
  let c24_i32 : BitVec 32 := 24#32
  let v3 : BitVec 32 := Scalar.muli arg0 c24_i32
  let c8_i32_220 : BitVec 32 := 8#32
  let v750 : BitVec 32 := Scalar.addi v3 c8_i32_220
  v750
def k0_mult42 (i : grid0.Coords) : BitVec 32 :=
  let arg0 : BitVec 32 := BitVec.ofNat 32 (i 0).val
  let c24_i32 : BitVec 32 := 24#32
  let v3 : BitVec 32 := Scalar.muli arg0 c24_i32
  let c16_i32_226 : BitVec 32 := 16#32
  let v768 : BitVec 32 := Scalar.addi v3 c16_i32_226
  v768
def k0_mult43 (i : grid0.Coords) : BitVec 32 :=
  let arg0 : BitVec 32 := BitVec.ofNat 32 (i 0).val
  let c24_i32 : BitVec 32 := 24#32
  let v3 : BitVec 32 := Scalar.muli arg0 c24_i32
  let c16_i32_232 : BitVec 32 := 16#32
  let v786 : BitVec 32 := Scalar.addi v3 c16_i32_232
  v786
def k0_mult44 (i : grid0.Coords) : BitVec 32 :=
  let arg0 : BitVec 32 := BitVec.ofNat 32 (i 0).val
  let c24_i32 : BitVec 32 := 24#32
  let v3 : BitVec 32 := Scalar.muli arg0 c24_i32
  let c16_i32_238 : BitVec 32 := 16#32
  let v804 : BitVec 32 := Scalar.addi v3 c16_i32_238
  v804
def k0_mult45 (i : grid0.Coords) : BitVec 32 :=
  let arg0 : BitVec 32 := BitVec.ofNat 32 (i 0).val
  let c24_i32 : BitVec 32 := 24#32
  let v3 : BitVec 32 := Scalar.muli arg0 c24_i32
  let c16_i32_244 : BitVec 32 := 16#32
  let v822 : BitVec 32 := Scalar.addi v3 c16_i32_244
  v822
def k0_mult46 (i : grid0.Coords) : BitVec 32 :=
  let arg0 : BitVec 32 := BitVec.ofNat 32 (i 0).val
  let c24_i32 : BitVec 32 := 24#32
  let v3 : BitVec 32 := Scalar.muli arg0 c24_i32
  let c16_i32_250 : BitVec 32 := 16#32
  let v840 : BitVec 32 := Scalar.addi v3 c16_i32_250
  v840
def k0_mult47 (i : grid0.Coords) : BitVec 32 :=
  let arg0 : BitVec 32 := BitVec.ofNat 32 (i 0).val
  let c24_i32 : BitVec 32 := 24#32
  let v3 : BitVec 32 := Scalar.muli arg0 c24_i32
  let c16_i32_256 : BitVec 32 := 16#32
  let v858 : BitVec 32 := Scalar.addi v3 c16_i32_256
  v858
def k0_mult48 (i : grid0.Coords) : BitVec 32 :=
  let arg0 : BitVec 32 := BitVec.ofNat 32 (i 0).val
  let c24_i32 : BitVec 32 := 24#32
  let v3 : BitVec 32 := Scalar.muli arg0 c24_i32
  let c16_i32_262 : BitVec 32 := 16#32
  let v876 : BitVec 32 := Scalar.addi v3 c16_i32_262
  v876
def k0_mult49 (i : grid0.Coords) : BitVec 32 :=
  let arg0 : BitVec 32 := BitVec.ofNat 32 (i 0).val
  let c24_i32 : BitVec 32 := 24#32
  let v3 : BitVec 32 := Scalar.muli arg0 c24_i32
  let c16_i32_268 : BitVec 32 := 16#32
  let v894 : BitVec 32 := Scalar.addi v3 c16_i32_268
  v894
def k0_mult50 (i : grid0.Coords) : BitVec 32 :=
  let arg0 : BitVec 32 := BitVec.ofNat 32 (i 0).val
  let c24_i32 : BitVec 32 := 24#32
  let v3 : BitVec 32 := Scalar.muli arg0 c24_i32
  let c0_i32_283 : BitVec 32 := 0#32
  let v934 : BitVec 32 := Scalar.addi v3 c0_i32_283
  v934
def k0_off41 (i : grid0.Coords) (c0_i32_283 : BitVec 32) : Fin 2 → Nat :=
  let arg0 : BitVec 32 := BitVec.ofNat 32 (i 0).val
  let c24_i32 : BitVec 32 := 24#32
  let v3 : BitVec 32 := Scalar.muli arg0 c24_i32
  let v934 : BitVec 32 := Scalar.addi v3 c0_i32_283
  let v935 : BitVec 32 := v934
  let v936 : Index := Scalar.indexCast v935
  let c256_284 : Index := 256#32
  ![v936.toNat, 256]
def k0_mult51 (i : grid0.Coords) : BitVec 32 :=
  let arg0 : BitVec 32 := BitVec.ofNat 32 (i 0).val
  let c24_i32 : BitVec 32 := 24#32
  let v3 : BitVec 32 := Scalar.muli arg0 c24_i32
  let c0_i32_287 : BitVec 32 := 0#32
  let v952 : BitVec 32 := Scalar.addi v3 c0_i32_287
  v952
def k0_mult52 (i : grid0.Coords) : BitVec 32 :=
  let arg0 : BitVec 32 := BitVec.ofNat 32 (i 0).val
  let c24_i32 : BitVec 32 := 24#32
  let v3 : BitVec 32 := Scalar.muli arg0 c24_i32
  let c0_i32_293 : BitVec 32 := 0#32
  let v970 : BitVec 32 := Scalar.addi v3 c0_i32_293
  v970
def k0_mult53 (i : grid0.Coords) : BitVec 32 :=
  let arg0 : BitVec 32 := BitVec.ofNat 32 (i 0).val
  let c24_i32 : BitVec 32 := 24#32
  let v3 : BitVec 32 := Scalar.muli arg0 c24_i32
  let c0_i32_299 : BitVec 32 := 0#32
  let v988 : BitVec 32 := Scalar.addi v3 c0_i32_299
  v988
def k0_mult54 (i : grid0.Coords) : BitVec 32 :=
  let arg0 : BitVec 32 := BitVec.ofNat 32 (i 0).val
  let c24_i32 : BitVec 32 := 24#32
  let v3 : BitVec 32 := Scalar.muli arg0 c24_i32
  let c0_i32_305 : BitVec 32 := 0#32
  let v1006 : BitVec 32 := Scalar.addi v3 c0_i32_305
  v1006
def k0_mult55 (i : grid0.Coords) : BitVec 32 :=
  let arg0 : BitVec 32 := BitVec.ofNat 32 (i 0).val
  let c24_i32 : BitVec 32 := 24#32
  let v3 : BitVec 32 := Scalar.muli arg0 c24_i32
  let c0_i32_311 : BitVec 32 := 0#32
  let v1024 : BitVec 32 := Scalar.addi v3 c0_i32_311
  v1024
def k0_mult56 (i : grid0.Coords) : BitVec 32 :=
  let arg0 : BitVec 32 := BitVec.ofNat 32 (i 0).val
  let c24_i32 : BitVec 32 := 24#32
  let v3 : BitVec 32 := Scalar.muli arg0 c24_i32
  let c0_i32_317 : BitVec 32 := 0#32
  let v1042 : BitVec 32 := Scalar.addi v3 c0_i32_317
  v1042
def k0_mult57 (i : grid0.Coords) : BitVec 32 :=
  let arg0 : BitVec 32 := BitVec.ofNat 32 (i 0).val
  let c24_i32 : BitVec 32 := 24#32
  let v3 : BitVec 32 := Scalar.muli arg0 c24_i32
  let c0_i32_323 : BitVec 32 := 0#32
  let v1060 : BitVec 32 := Scalar.addi v3 c0_i32_323
  v1060
def k0_mult58 (i : grid0.Coords) : BitVec 32 :=
  let arg0 : BitVec 32 := BitVec.ofNat 32 (i 0).val
  let c24_i32 : BitVec 32 := 24#32
  let v3 : BitVec 32 := Scalar.muli arg0 c24_i32
  let c8_i32_329 : BitVec 32 := 8#32
  let v1078 : BitVec 32 := Scalar.addi v3 c8_i32_329
  v1078
def k0_mult59 (i : grid0.Coords) : BitVec 32 :=
  let arg0 : BitVec 32 := BitVec.ofNat 32 (i 0).val
  let c24_i32 : BitVec 32 := 24#32
  let v3 : BitVec 32 := Scalar.muli arg0 c24_i32
  let c8_i32_335 : BitVec 32 := 8#32
  let v1096 : BitVec 32 := Scalar.addi v3 c8_i32_335
  v1096
def k0_mult60 (i : grid0.Coords) : BitVec 32 :=
  let arg0 : BitVec 32 := BitVec.ofNat 32 (i 0).val
  let c24_i32 : BitVec 32 := 24#32
  let v3 : BitVec 32 := Scalar.muli arg0 c24_i32
  let c8_i32_341 : BitVec 32 := 8#32
  let v1114 : BitVec 32 := Scalar.addi v3 c8_i32_341
  v1114
def k0_mult61 (i : grid0.Coords) : BitVec 32 :=
  let arg0 : BitVec 32 := BitVec.ofNat 32 (i 0).val
  let c24_i32 : BitVec 32 := 24#32
  let v3 : BitVec 32 := Scalar.muli arg0 c24_i32
  let c8_i32_347 : BitVec 32 := 8#32
  let v1132 : BitVec 32 := Scalar.addi v3 c8_i32_347
  v1132
def k0_mult62 (i : grid0.Coords) : BitVec 32 :=
  let arg0 : BitVec 32 := BitVec.ofNat 32 (i 0).val
  let c24_i32 : BitVec 32 := 24#32
  let v3 : BitVec 32 := Scalar.muli arg0 c24_i32
  let c8_i32_353 : BitVec 32 := 8#32
  let v1150 : BitVec 32 := Scalar.addi v3 c8_i32_353
  v1150
def k0_mult63 (i : grid0.Coords) : BitVec 32 :=
  let arg0 : BitVec 32 := BitVec.ofNat 32 (i 0).val
  let c24_i32 : BitVec 32 := 24#32
  let v3 : BitVec 32 := Scalar.muli arg0 c24_i32
  let c8_i32_359 : BitVec 32 := 8#32
  let v1168 : BitVec 32 := Scalar.addi v3 c8_i32_359
  v1168
def k0_mult64 (i : grid0.Coords) : BitVec 32 :=
  let arg0 : BitVec 32 := BitVec.ofNat 32 (i 0).val
  let c24_i32 : BitVec 32 := 24#32
  let v3 : BitVec 32 := Scalar.muli arg0 c24_i32
  let c8_i32_365 : BitVec 32 := 8#32
  let v1186 : BitVec 32 := Scalar.addi v3 c8_i32_365
  v1186
def k0_mult65 (i : grid0.Coords) : BitVec 32 :=
  let arg0 : BitVec 32 := BitVec.ofNat 32 (i 0).val
  let c24_i32 : BitVec 32 := 24#32
  let v3 : BitVec 32 := Scalar.muli arg0 c24_i32
  let c8_i32_371 : BitVec 32 := 8#32
  let v1204 : BitVec 32 := Scalar.addi v3 c8_i32_371
  v1204
def k0_mult66 (i : grid0.Coords) : BitVec 32 :=
  let arg0 : BitVec 32 := BitVec.ofNat 32 (i 0).val
  let c24_i32 : BitVec 32 := 24#32
  let v3 : BitVec 32 := Scalar.muli arg0 c24_i32
  let c16_i32_377 : BitVec 32 := 16#32
  let v1222 : BitVec 32 := Scalar.addi v3 c16_i32_377
  v1222
def k0_mult67 (i : grid0.Coords) : BitVec 32 :=
  let arg0 : BitVec 32 := BitVec.ofNat 32 (i 0).val
  let c24_i32 : BitVec 32 := 24#32
  let v3 : BitVec 32 := Scalar.muli arg0 c24_i32
  let c16_i32_383 : BitVec 32 := 16#32
  let v1240 : BitVec 32 := Scalar.addi v3 c16_i32_383
  v1240
def k0_mult68 (i : grid0.Coords) : BitVec 32 :=
  let arg0 : BitVec 32 := BitVec.ofNat 32 (i 0).val
  let c24_i32 : BitVec 32 := 24#32
  let v3 : BitVec 32 := Scalar.muli arg0 c24_i32
  let c16_i32_389 : BitVec 32 := 16#32
  let v1258 : BitVec 32 := Scalar.addi v3 c16_i32_389
  v1258
def k0_mult69 (i : grid0.Coords) : BitVec 32 :=
  let arg0 : BitVec 32 := BitVec.ofNat 32 (i 0).val
  let c24_i32 : BitVec 32 := 24#32
  let v3 : BitVec 32 := Scalar.muli arg0 c24_i32
  let c16_i32_395 : BitVec 32 := 16#32
  let v1276 : BitVec 32 := Scalar.addi v3 c16_i32_395
  v1276
def k0_mult70 (i : grid0.Coords) : BitVec 32 :=
  let arg0 : BitVec 32 := BitVec.ofNat 32 (i 0).val
  let c24_i32 : BitVec 32 := 24#32
  let v3 : BitVec 32 := Scalar.muli arg0 c24_i32
  let c16_i32_401 : BitVec 32 := 16#32
  let v1294 : BitVec 32 := Scalar.addi v3 c16_i32_401
  v1294
def k0_mult71 (i : grid0.Coords) : BitVec 32 :=
  let arg0 : BitVec 32 := BitVec.ofNat 32 (i 0).val
  let c24_i32 : BitVec 32 := 24#32
  let v3 : BitVec 32 := Scalar.muli arg0 c24_i32
  let c16_i32_407 : BitVec 32 := 16#32
  let v1312 : BitVec 32 := Scalar.addi v3 c16_i32_407
  v1312
def k0_mult72 (i : grid0.Coords) : BitVec 32 :=
  let arg0 : BitVec 32 := BitVec.ofNat 32 (i 0).val
  let c24_i32 : BitVec 32 := 24#32
  let v3 : BitVec 32 := Scalar.muli arg0 c24_i32
  let c16_i32_413 : BitVec 32 := 16#32
  let v1330 : BitVec 32 := Scalar.addi v3 c16_i32_413
  v1330
def k0_mult73 (i : grid0.Coords) : BitVec 32 :=
  let arg0 : BitVec 32 := BitVec.ofNat 32 (i 0).val
  let c24_i32 : BitVec 32 := 24#32
  let v3 : BitVec 32 := Scalar.muli arg0 c24_i32
  let c16_i32_419 : BitVec 32 := 16#32
  let v1348 : BitVec 32 := Scalar.addi v3 c16_i32_419
  v1348
def k0_mult74 (i : grid0.Coords) : BitVec 32 :=
  let arg0 : BitVec 32 := BitVec.ofNat 32 (i 0).val
  let c24_i32 : BitVec 32 := 24#32
  let v3 : BitVec 32 := Scalar.muli arg0 c24_i32
  let c0_i32_434 : BitVec 32 := 0#32
  let v1388 : BitVec 32 := Scalar.addi v3 c0_i32_434
  v1388
def k0_off42 (i : grid0.Coords) (c0_i32_434 : BitVec 32) : Fin 2 → Nat :=
  let arg0 : BitVec 32 := BitVec.ofNat 32 (i 0).val
  let c24_i32 : BitVec 32 := 24#32
  let v3 : BitVec 32 := Scalar.muli arg0 c24_i32
  let v1388 : BitVec 32 := Scalar.addi v3 c0_i32_434
  let v1389 : BitVec 32 := v1388
  let v1390 : Index := Scalar.indexCast v1389
  let c384_435 : Index := 384#32
  ![v1390.toNat, 384]
def k0_mult75 (i : grid0.Coords) : BitVec 32 :=
  let arg0 : BitVec 32 := BitVec.ofNat 32 (i 0).val
  let c24_i32 : BitVec 32 := 24#32
  let v3 : BitVec 32 := Scalar.muli arg0 c24_i32
  let c0_i32_438 : BitVec 32 := 0#32
  let v1406 : BitVec 32 := Scalar.addi v3 c0_i32_438
  v1406
def k0_mult76 (i : grid0.Coords) : BitVec 32 :=
  let arg0 : BitVec 32 := BitVec.ofNat 32 (i 0).val
  let c24_i32 : BitVec 32 := 24#32
  let v3 : BitVec 32 := Scalar.muli arg0 c24_i32
  let c0_i32_444 : BitVec 32 := 0#32
  let v1424 : BitVec 32 := Scalar.addi v3 c0_i32_444
  v1424
def k0_mult77 (i : grid0.Coords) : BitVec 32 :=
  let arg0 : BitVec 32 := BitVec.ofNat 32 (i 0).val
  let c24_i32 : BitVec 32 := 24#32
  let v3 : BitVec 32 := Scalar.muli arg0 c24_i32
  let c0_i32_450 : BitVec 32 := 0#32
  let v1442 : BitVec 32 := Scalar.addi v3 c0_i32_450
  v1442
def k0_mult78 (i : grid0.Coords) : BitVec 32 :=
  let arg0 : BitVec 32 := BitVec.ofNat 32 (i 0).val
  let c24_i32 : BitVec 32 := 24#32
  let v3 : BitVec 32 := Scalar.muli arg0 c24_i32
  let c0_i32_456 : BitVec 32 := 0#32
  let v1460 : BitVec 32 := Scalar.addi v3 c0_i32_456
  v1460
def k0_mult79 (i : grid0.Coords) : BitVec 32 :=
  let arg0 : BitVec 32 := BitVec.ofNat 32 (i 0).val
  let c24_i32 : BitVec 32 := 24#32
  let v3 : BitVec 32 := Scalar.muli arg0 c24_i32
  let c0_i32_462 : BitVec 32 := 0#32
  let v1478 : BitVec 32 := Scalar.addi v3 c0_i32_462
  v1478
def k0_mult80 (i : grid0.Coords) : BitVec 32 :=
  let arg0 : BitVec 32 := BitVec.ofNat 32 (i 0).val
  let c24_i32 : BitVec 32 := 24#32
  let v3 : BitVec 32 := Scalar.muli arg0 c24_i32
  let c0_i32_468 : BitVec 32 := 0#32
  let v1496 : BitVec 32 := Scalar.addi v3 c0_i32_468
  v1496
def k0_mult81 (i : grid0.Coords) : BitVec 32 :=
  let arg0 : BitVec 32 := BitVec.ofNat 32 (i 0).val
  let c24_i32 : BitVec 32 := 24#32
  let v3 : BitVec 32 := Scalar.muli arg0 c24_i32
  let c0_i32_474 : BitVec 32 := 0#32
  let v1514 : BitVec 32 := Scalar.addi v3 c0_i32_474
  v1514
def k0_mult82 (i : grid0.Coords) : BitVec 32 :=
  let arg0 : BitVec 32 := BitVec.ofNat 32 (i 0).val
  let c24_i32 : BitVec 32 := 24#32
  let v3 : BitVec 32 := Scalar.muli arg0 c24_i32
  let c8_i32_480 : BitVec 32 := 8#32
  let v1532 : BitVec 32 := Scalar.addi v3 c8_i32_480
  v1532
def k0_mult83 (i : grid0.Coords) : BitVec 32 :=
  let arg0 : BitVec 32 := BitVec.ofNat 32 (i 0).val
  let c24_i32 : BitVec 32 := 24#32
  let v3 : BitVec 32 := Scalar.muli arg0 c24_i32
  let c8_i32_486 : BitVec 32 := 8#32
  let v1550 : BitVec 32 := Scalar.addi v3 c8_i32_486
  v1550
def k0_mult84 (i : grid0.Coords) : BitVec 32 :=
  let arg0 : BitVec 32 := BitVec.ofNat 32 (i 0).val
  let c24_i32 : BitVec 32 := 24#32
  let v3 : BitVec 32 := Scalar.muli arg0 c24_i32
  let c8_i32_492 : BitVec 32 := 8#32
  let v1568 : BitVec 32 := Scalar.addi v3 c8_i32_492
  v1568
def k0_mult85 (i : grid0.Coords) : BitVec 32 :=
  let arg0 : BitVec 32 := BitVec.ofNat 32 (i 0).val
  let c24_i32 : BitVec 32 := 24#32
  let v3 : BitVec 32 := Scalar.muli arg0 c24_i32
  let c8_i32_498 : BitVec 32 := 8#32
  let v1586 : BitVec 32 := Scalar.addi v3 c8_i32_498
  v1586
def k0_mult86 (i : grid0.Coords) : BitVec 32 :=
  let arg0 : BitVec 32 := BitVec.ofNat 32 (i 0).val
  let c24_i32 : BitVec 32 := 24#32
  let v3 : BitVec 32 := Scalar.muli arg0 c24_i32
  let c8_i32_504 : BitVec 32 := 8#32
  let v1604 : BitVec 32 := Scalar.addi v3 c8_i32_504
  v1604
def k0_mult87 (i : grid0.Coords) : BitVec 32 :=
  let arg0 : BitVec 32 := BitVec.ofNat 32 (i 0).val
  let c24_i32 : BitVec 32 := 24#32
  let v3 : BitVec 32 := Scalar.muli arg0 c24_i32
  let c8_i32_510 : BitVec 32 := 8#32
  let v1622 : BitVec 32 := Scalar.addi v3 c8_i32_510
  v1622
def k0_mult88 (i : grid0.Coords) : BitVec 32 :=
  let arg0 : BitVec 32 := BitVec.ofNat 32 (i 0).val
  let c24_i32 : BitVec 32 := 24#32
  let v3 : BitVec 32 := Scalar.muli arg0 c24_i32
  let c8_i32_516 : BitVec 32 := 8#32
  let v1640 : BitVec 32 := Scalar.addi v3 c8_i32_516
  v1640
def k0_mult89 (i : grid0.Coords) : BitVec 32 :=
  let arg0 : BitVec 32 := BitVec.ofNat 32 (i 0).val
  let c24_i32 : BitVec 32 := 24#32
  let v3 : BitVec 32 := Scalar.muli arg0 c24_i32
  let c8_i32_522 : BitVec 32 := 8#32
  let v1658 : BitVec 32 := Scalar.addi v3 c8_i32_522
  v1658
def k0_mult90 (i : grid0.Coords) : BitVec 32 :=
  let arg0 : BitVec 32 := BitVec.ofNat 32 (i 0).val
  let c24_i32 : BitVec 32 := 24#32
  let v3 : BitVec 32 := Scalar.muli arg0 c24_i32
  let c16_i32_528 : BitVec 32 := 16#32
  let v1676 : BitVec 32 := Scalar.addi v3 c16_i32_528
  v1676
def k0_mult91 (i : grid0.Coords) : BitVec 32 :=
  let arg0 : BitVec 32 := BitVec.ofNat 32 (i 0).val
  let c24_i32 : BitVec 32 := 24#32
  let v3 : BitVec 32 := Scalar.muli arg0 c24_i32
  let c16_i32_534 : BitVec 32 := 16#32
  let v1694 : BitVec 32 := Scalar.addi v3 c16_i32_534
  v1694
def k0_mult92 (i : grid0.Coords) : BitVec 32 :=
  let arg0 : BitVec 32 := BitVec.ofNat 32 (i 0).val
  let c24_i32 : BitVec 32 := 24#32
  let v3 : BitVec 32 := Scalar.muli arg0 c24_i32
  let c16_i32_540 : BitVec 32 := 16#32
  let v1712 : BitVec 32 := Scalar.addi v3 c16_i32_540
  v1712
def k0_mult93 (i : grid0.Coords) : BitVec 32 :=
  let arg0 : BitVec 32 := BitVec.ofNat 32 (i 0).val
  let c24_i32 : BitVec 32 := 24#32
  let v3 : BitVec 32 := Scalar.muli arg0 c24_i32
  let c16_i32_546 : BitVec 32 := 16#32
  let v1730 : BitVec 32 := Scalar.addi v3 c16_i32_546
  v1730
def k0_mult94 (i : grid0.Coords) : BitVec 32 :=
  let arg0 : BitVec 32 := BitVec.ofNat 32 (i 0).val
  let c24_i32 : BitVec 32 := 24#32
  let v3 : BitVec 32 := Scalar.muli arg0 c24_i32
  let c16_i32_552 : BitVec 32 := 16#32
  let v1748 : BitVec 32 := Scalar.addi v3 c16_i32_552
  v1748
def k0_mult95 (i : grid0.Coords) : BitVec 32 :=
  let arg0 : BitVec 32 := BitVec.ofNat 32 (i 0).val
  let c24_i32 : BitVec 32 := 24#32
  let v3 : BitVec 32 := Scalar.muli arg0 c24_i32
  let c16_i32_558 : BitVec 32 := 16#32
  let v1766 : BitVec 32 := Scalar.addi v3 c16_i32_558
  v1766
def k0_mult96 (i : grid0.Coords) : BitVec 32 :=
  let arg0 : BitVec 32 := BitVec.ofNat 32 (i 0).val
  let c24_i32 : BitVec 32 := 24#32
  let v3 : BitVec 32 := Scalar.muli arg0 c24_i32
  let c16_i32_564 : BitVec 32 := 16#32
  let v1784 : BitVec 32 := Scalar.addi v3 c16_i32_564
  v1784
def k0_mult97 (i : grid0.Coords) : BitVec 32 :=
  let arg0 : BitVec 32 := BitVec.ofNat 32 (i 0).val
  let c24_i32 : BitVec 32 := 24#32
  let v3 : BitVec 32 := Scalar.muli arg0 c24_i32
  let c16_i32_570 : BitVec 32 := 16#32
  let v1802 : BitVec 32 := Scalar.addi v3 c16_i32_570
  v1802
def k0_mult98 (i : grid0.Coords) : BitVec 32 :=
  let arg0 : BitVec 32 := BitVec.ofNat 32 (i 0).val
  let c24_i32 : BitVec 32 := 24#32
  let v3 : BitVec 32 := Scalar.muli arg0 c24_i32
  let c0_i32_585 : BitVec 32 := 0#32
  let v1842 : BitVec 32 := Scalar.addi v3 c0_i32_585
  v1842
def k0_off43 (i : grid0.Coords) (c0_i32_585 : BitVec 32) : Fin 2 → Nat :=
  let arg0 : BitVec 32 := BitVec.ofNat 32 (i 0).val
  let c24_i32 : BitVec 32 := 24#32
  let v3 : BitVec 32 := Scalar.muli arg0 c24_i32
  let v1842 : BitVec 32 := Scalar.addi v3 c0_i32_585
  let v1843 : BitVec 32 := v1842
  let v1844 : Index := Scalar.indexCast v1843
  let c512_586 : Index := 512#32
  ![v1844.toNat, 512]
def k0_mult99 (i : grid0.Coords) : BitVec 32 :=
  let arg0 : BitVec 32 := BitVec.ofNat 32 (i 0).val
  let c24_i32 : BitVec 32 := 24#32
  let v3 : BitVec 32 := Scalar.muli arg0 c24_i32
  let c0_i32_589 : BitVec 32 := 0#32
  let v1860 : BitVec 32 := Scalar.addi v3 c0_i32_589
  v1860
def k0_mult100 (i : grid0.Coords) : BitVec 32 :=
  let arg0 : BitVec 32 := BitVec.ofNat 32 (i 0).val
  let c24_i32 : BitVec 32 := 24#32
  let v3 : BitVec 32 := Scalar.muli arg0 c24_i32
  let c0_i32_595 : BitVec 32 := 0#32
  let v1878 : BitVec 32 := Scalar.addi v3 c0_i32_595
  v1878
def k0_mult101 (i : grid0.Coords) : BitVec 32 :=
  let arg0 : BitVec 32 := BitVec.ofNat 32 (i 0).val
  let c24_i32 : BitVec 32 := 24#32
  let v3 : BitVec 32 := Scalar.muli arg0 c24_i32
  let c0_i32_601 : BitVec 32 := 0#32
  let v1896 : BitVec 32 := Scalar.addi v3 c0_i32_601
  v1896
def k0_mult102 (i : grid0.Coords) : BitVec 32 :=
  let arg0 : BitVec 32 := BitVec.ofNat 32 (i 0).val
  let c24_i32 : BitVec 32 := 24#32
  let v3 : BitVec 32 := Scalar.muli arg0 c24_i32
  let c0_i32_607 : BitVec 32 := 0#32
  let v1914 : BitVec 32 := Scalar.addi v3 c0_i32_607
  v1914
def k0_mult103 (i : grid0.Coords) : BitVec 32 :=
  let arg0 : BitVec 32 := BitVec.ofNat 32 (i 0).val
  let c24_i32 : BitVec 32 := 24#32
  let v3 : BitVec 32 := Scalar.muli arg0 c24_i32
  let c0_i32_613 : BitVec 32 := 0#32
  let v1932 : BitVec 32 := Scalar.addi v3 c0_i32_613
  v1932
def k0_mult104 (i : grid0.Coords) : BitVec 32 :=
  let arg0 : BitVec 32 := BitVec.ofNat 32 (i 0).val
  let c24_i32 : BitVec 32 := 24#32
  let v3 : BitVec 32 := Scalar.muli arg0 c24_i32
  let c0_i32_619 : BitVec 32 := 0#32
  let v1950 : BitVec 32 := Scalar.addi v3 c0_i32_619
  v1950
def k0_mult105 (i : grid0.Coords) : BitVec 32 :=
  let arg0 : BitVec 32 := BitVec.ofNat 32 (i 0).val
  let c24_i32 : BitVec 32 := 24#32
  let v3 : BitVec 32 := Scalar.muli arg0 c24_i32
  let c0_i32_625 : BitVec 32 := 0#32
  let v1968 : BitVec 32 := Scalar.addi v3 c0_i32_625
  v1968
def k0_mult106 (i : grid0.Coords) : BitVec 32 :=
  let arg0 : BitVec 32 := BitVec.ofNat 32 (i 0).val
  let c24_i32 : BitVec 32 := 24#32
  let v3 : BitVec 32 := Scalar.muli arg0 c24_i32
  let c8_i32_631 : BitVec 32 := 8#32
  let v1986 : BitVec 32 := Scalar.addi v3 c8_i32_631
  v1986
def k0_mult107 (i : grid0.Coords) : BitVec 32 :=
  let arg0 : BitVec 32 := BitVec.ofNat 32 (i 0).val
  let c24_i32 : BitVec 32 := 24#32
  let v3 : BitVec 32 := Scalar.muli arg0 c24_i32
  let c8_i32_637 : BitVec 32 := 8#32
  let v2004 : BitVec 32 := Scalar.addi v3 c8_i32_637
  v2004
def k0_mult108 (i : grid0.Coords) : BitVec 32 :=
  let arg0 : BitVec 32 := BitVec.ofNat 32 (i 0).val
  let c24_i32 : BitVec 32 := 24#32
  let v3 : BitVec 32 := Scalar.muli arg0 c24_i32
  let c8_i32_643 : BitVec 32 := 8#32
  let v2022 : BitVec 32 := Scalar.addi v3 c8_i32_643
  v2022
def k0_mult109 (i : grid0.Coords) : BitVec 32 :=
  let arg0 : BitVec 32 := BitVec.ofNat 32 (i 0).val
  let c24_i32 : BitVec 32 := 24#32
  let v3 : BitVec 32 := Scalar.muli arg0 c24_i32
  let c8_i32_649 : BitVec 32 := 8#32
  let v2040 : BitVec 32 := Scalar.addi v3 c8_i32_649
  v2040
def k0_mult110 (i : grid0.Coords) : BitVec 32 :=
  let arg0 : BitVec 32 := BitVec.ofNat 32 (i 0).val
  let c24_i32 : BitVec 32 := 24#32
  let v3 : BitVec 32 := Scalar.muli arg0 c24_i32
  let c8_i32_655 : BitVec 32 := 8#32
  let v2058 : BitVec 32 := Scalar.addi v3 c8_i32_655
  v2058
def k0_mult111 (i : grid0.Coords) : BitVec 32 :=
  let arg0 : BitVec 32 := BitVec.ofNat 32 (i 0).val
  let c24_i32 : BitVec 32 := 24#32
  let v3 : BitVec 32 := Scalar.muli arg0 c24_i32
  let c8_i32_661 : BitVec 32 := 8#32
  let v2076 : BitVec 32 := Scalar.addi v3 c8_i32_661
  v2076
def k0_mult112 (i : grid0.Coords) : BitVec 32 :=
  let arg0 : BitVec 32 := BitVec.ofNat 32 (i 0).val
  let c24_i32 : BitVec 32 := 24#32
  let v3 : BitVec 32 := Scalar.muli arg0 c24_i32
  let c8_i32_667 : BitVec 32 := 8#32
  let v2094 : BitVec 32 := Scalar.addi v3 c8_i32_667
  v2094
def k0_mult113 (i : grid0.Coords) : BitVec 32 :=
  let arg0 : BitVec 32 := BitVec.ofNat 32 (i 0).val
  let c24_i32 : BitVec 32 := 24#32
  let v3 : BitVec 32 := Scalar.muli arg0 c24_i32
  let c8_i32_673 : BitVec 32 := 8#32
  let v2112 : BitVec 32 := Scalar.addi v3 c8_i32_673
  v2112
def k0_mult114 (i : grid0.Coords) : BitVec 32 :=
  let arg0 : BitVec 32 := BitVec.ofNat 32 (i 0).val
  let c24_i32 : BitVec 32 := 24#32
  let v3 : BitVec 32 := Scalar.muli arg0 c24_i32
  let c16_i32_679 : BitVec 32 := 16#32
  let v2130 : BitVec 32 := Scalar.addi v3 c16_i32_679
  v2130
def k0_mult115 (i : grid0.Coords) : BitVec 32 :=
  let arg0 : BitVec 32 := BitVec.ofNat 32 (i 0).val
  let c24_i32 : BitVec 32 := 24#32
  let v3 : BitVec 32 := Scalar.muli arg0 c24_i32
  let c16_i32_685 : BitVec 32 := 16#32
  let v2148 : BitVec 32 := Scalar.addi v3 c16_i32_685
  v2148
def k0_mult116 (i : grid0.Coords) : BitVec 32 :=
  let arg0 : BitVec 32 := BitVec.ofNat 32 (i 0).val
  let c24_i32 : BitVec 32 := 24#32
  let v3 : BitVec 32 := Scalar.muli arg0 c24_i32
  let c16_i32_691 : BitVec 32 := 16#32
  let v2166 : BitVec 32 := Scalar.addi v3 c16_i32_691
  v2166
def k0_mult117 (i : grid0.Coords) : BitVec 32 :=
  let arg0 : BitVec 32 := BitVec.ofNat 32 (i 0).val
  let c24_i32 : BitVec 32 := 24#32
  let v3 : BitVec 32 := Scalar.muli arg0 c24_i32
  let c16_i32_697 : BitVec 32 := 16#32
  let v2184 : BitVec 32 := Scalar.addi v3 c16_i32_697
  v2184
def k0_mult118 (i : grid0.Coords) : BitVec 32 :=
  let arg0 : BitVec 32 := BitVec.ofNat 32 (i 0).val
  let c24_i32 : BitVec 32 := 24#32
  let v3 : BitVec 32 := Scalar.muli arg0 c24_i32
  let c16_i32_703 : BitVec 32 := 16#32
  let v2202 : BitVec 32 := Scalar.addi v3 c16_i32_703
  v2202
def k0_mult119 (i : grid0.Coords) : BitVec 32 :=
  let arg0 : BitVec 32 := BitVec.ofNat 32 (i 0).val
  let c24_i32 : BitVec 32 := 24#32
  let v3 : BitVec 32 := Scalar.muli arg0 c24_i32
  let c16_i32_709 : BitVec 32 := 16#32
  let v2220 : BitVec 32 := Scalar.addi v3 c16_i32_709
  v2220
def k0_mult120 (i : grid0.Coords) : BitVec 32 :=
  let arg0 : BitVec 32 := BitVec.ofNat 32 (i 0).val
  let c24_i32 : BitVec 32 := 24#32
  let v3 : BitVec 32 := Scalar.muli arg0 c24_i32
  let c16_i32_715 : BitVec 32 := 16#32
  let v2238 : BitVec 32 := Scalar.addi v3 c16_i32_715
  v2238
def k0_mult121 (i : grid0.Coords) : BitVec 32 :=
  let arg0 : BitVec 32 := BitVec.ofNat 32 (i 0).val
  let c24_i32 : BitVec 32 := 24#32
  let v3 : BitVec 32 := Scalar.muli arg0 c24_i32
  let c16_i32_721 : BitVec 32 := 16#32
  let v2256 : BitVec 32 := Scalar.addi v3 c16_i32_721
  v2256
def k0_mult122 (i : grid0.Coords) : BitVec 32 :=
  let arg0 : BitVec 32 := BitVec.ofNat 32 (i 0).val
  let c24_i32 : BitVec 32 := 24#32
  let v3 : BitVec 32 := Scalar.muli arg0 c24_i32
  let c0_i32_736 : BitVec 32 := 0#32
  let v2296 : BitVec 32 := Scalar.addi v3 c0_i32_736
  v2296
def k0_off44 (i : grid0.Coords) (c0_i32_736 : BitVec 32) : Fin 2 → Nat :=
  let arg0 : BitVec 32 := BitVec.ofNat 32 (i 0).val
  let c24_i32 : BitVec 32 := 24#32
  let v3 : BitVec 32 := Scalar.muli arg0 c24_i32
  let v2296 : BitVec 32 := Scalar.addi v3 c0_i32_736
  let v2297 : BitVec 32 := v2296
  let v2298 : Index := Scalar.indexCast v2297
  let c640_737 : Index := 640#32
  ![v2298.toNat, 640]
def k0_mult123 (i : grid0.Coords) : BitVec 32 :=
  let arg0 : BitVec 32 := BitVec.ofNat 32 (i 0).val
  let c24_i32 : BitVec 32 := 24#32
  let v3 : BitVec 32 := Scalar.muli arg0 c24_i32
  let c0_i32_740 : BitVec 32 := 0#32
  let v2314 : BitVec 32 := Scalar.addi v3 c0_i32_740
  v2314
def k0_mult124 (i : grid0.Coords) : BitVec 32 :=
  let arg0 : BitVec 32 := BitVec.ofNat 32 (i 0).val
  let c24_i32 : BitVec 32 := 24#32
  let v3 : BitVec 32 := Scalar.muli arg0 c24_i32
  let c0_i32_746 : BitVec 32 := 0#32
  let v2332 : BitVec 32 := Scalar.addi v3 c0_i32_746
  v2332
def k0_mult125 (i : grid0.Coords) : BitVec 32 :=
  let arg0 : BitVec 32 := BitVec.ofNat 32 (i 0).val
  let c24_i32 : BitVec 32 := 24#32
  let v3 : BitVec 32 := Scalar.muli arg0 c24_i32
  let c0_i32_752 : BitVec 32 := 0#32
  let v2350 : BitVec 32 := Scalar.addi v3 c0_i32_752
  v2350
def k0_mult126 (i : grid0.Coords) : BitVec 32 :=
  let arg0 : BitVec 32 := BitVec.ofNat 32 (i 0).val
  let c24_i32 : BitVec 32 := 24#32
  let v3 : BitVec 32 := Scalar.muli arg0 c24_i32
  let c0_i32_758 : BitVec 32 := 0#32
  let v2368 : BitVec 32 := Scalar.addi v3 c0_i32_758
  v2368
def k0_mult127 (i : grid0.Coords) : BitVec 32 :=
  let arg0 : BitVec 32 := BitVec.ofNat 32 (i 0).val
  let c24_i32 : BitVec 32 := 24#32
  let v3 : BitVec 32 := Scalar.muli arg0 c24_i32
  let c0_i32_764 : BitVec 32 := 0#32
  let v2386 : BitVec 32 := Scalar.addi v3 c0_i32_764
  v2386
def k0_mult128 (i : grid0.Coords) : BitVec 32 :=
  let arg0 : BitVec 32 := BitVec.ofNat 32 (i 0).val
  let c24_i32 : BitVec 32 := 24#32
  let v3 : BitVec 32 := Scalar.muli arg0 c24_i32
  let c0_i32_770 : BitVec 32 := 0#32
  let v2404 : BitVec 32 := Scalar.addi v3 c0_i32_770
  v2404
def k0_mult129 (i : grid0.Coords) : BitVec 32 :=
  let arg0 : BitVec 32 := BitVec.ofNat 32 (i 0).val
  let c24_i32 : BitVec 32 := 24#32
  let v3 : BitVec 32 := Scalar.muli arg0 c24_i32
  let c0_i32_776 : BitVec 32 := 0#32
  let v2422 : BitVec 32 := Scalar.addi v3 c0_i32_776
  v2422
def k0_mult130 (i : grid0.Coords) : BitVec 32 :=
  let arg0 : BitVec 32 := BitVec.ofNat 32 (i 0).val
  let c24_i32 : BitVec 32 := 24#32
  let v3 : BitVec 32 := Scalar.muli arg0 c24_i32
  let c8_i32_782 : BitVec 32 := 8#32
  let v2440 : BitVec 32 := Scalar.addi v3 c8_i32_782
  v2440
def k0_mult131 (i : grid0.Coords) : BitVec 32 :=
  let arg0 : BitVec 32 := BitVec.ofNat 32 (i 0).val
  let c24_i32 : BitVec 32 := 24#32
  let v3 : BitVec 32 := Scalar.muli arg0 c24_i32
  let c8_i32_788 : BitVec 32 := 8#32
  let v2458 : BitVec 32 := Scalar.addi v3 c8_i32_788
  v2458
def k0_mult132 (i : grid0.Coords) : BitVec 32 :=
  let arg0 : BitVec 32 := BitVec.ofNat 32 (i 0).val
  let c24_i32 : BitVec 32 := 24#32
  let v3 : BitVec 32 := Scalar.muli arg0 c24_i32
  let c8_i32_794 : BitVec 32 := 8#32
  let v2476 : BitVec 32 := Scalar.addi v3 c8_i32_794
  v2476
def k0_mult133 (i : grid0.Coords) : BitVec 32 :=
  let arg0 : BitVec 32 := BitVec.ofNat 32 (i 0).val
  let c24_i32 : BitVec 32 := 24#32
  let v3 : BitVec 32 := Scalar.muli arg0 c24_i32
  let c8_i32_800 : BitVec 32 := 8#32
  let v2494 : BitVec 32 := Scalar.addi v3 c8_i32_800
  v2494
def k0_mult134 (i : grid0.Coords) : BitVec 32 :=
  let arg0 : BitVec 32 := BitVec.ofNat 32 (i 0).val
  let c24_i32 : BitVec 32 := 24#32
  let v3 : BitVec 32 := Scalar.muli arg0 c24_i32
  let c8_i32_806 : BitVec 32 := 8#32
  let v2512 : BitVec 32 := Scalar.addi v3 c8_i32_806
  v2512
def k0_mult135 (i : grid0.Coords) : BitVec 32 :=
  let arg0 : BitVec 32 := BitVec.ofNat 32 (i 0).val
  let c24_i32 : BitVec 32 := 24#32
  let v3 : BitVec 32 := Scalar.muli arg0 c24_i32
  let c8_i32_812 : BitVec 32 := 8#32
  let v2530 : BitVec 32 := Scalar.addi v3 c8_i32_812
  v2530
def k0_mult136 (i : grid0.Coords) : BitVec 32 :=
  let arg0 : BitVec 32 := BitVec.ofNat 32 (i 0).val
  let c24_i32 : BitVec 32 := 24#32
  let v3 : BitVec 32 := Scalar.muli arg0 c24_i32
  let c8_i32_818 : BitVec 32 := 8#32
  let v2548 : BitVec 32 := Scalar.addi v3 c8_i32_818
  v2548
def k0_mult137 (i : grid0.Coords) : BitVec 32 :=
  let arg0 : BitVec 32 := BitVec.ofNat 32 (i 0).val
  let c24_i32 : BitVec 32 := 24#32
  let v3 : BitVec 32 := Scalar.muli arg0 c24_i32
  let c8_i32_824 : BitVec 32 := 8#32
  let v2566 : BitVec 32 := Scalar.addi v3 c8_i32_824
  v2566
def k0_mult138 (i : grid0.Coords) : BitVec 32 :=
  let arg0 : BitVec 32 := BitVec.ofNat 32 (i 0).val
  let c24_i32 : BitVec 32 := 24#32
  let v3 : BitVec 32 := Scalar.muli arg0 c24_i32
  let c16_i32_830 : BitVec 32 := 16#32
  let v2584 : BitVec 32 := Scalar.addi v3 c16_i32_830
  v2584
def k0_mult139 (i : grid0.Coords) : BitVec 32 :=
  let arg0 : BitVec 32 := BitVec.ofNat 32 (i 0).val
  let c24_i32 : BitVec 32 := 24#32
  let v3 : BitVec 32 := Scalar.muli arg0 c24_i32
  let c16_i32_836 : BitVec 32 := 16#32
  let v2602 : BitVec 32 := Scalar.addi v3 c16_i32_836
  v2602
def k0_mult140 (i : grid0.Coords) : BitVec 32 :=
  let arg0 : BitVec 32 := BitVec.ofNat 32 (i 0).val
  let c24_i32 : BitVec 32 := 24#32
  let v3 : BitVec 32 := Scalar.muli arg0 c24_i32
  let c16_i32_842 : BitVec 32 := 16#32
  let v2620 : BitVec 32 := Scalar.addi v3 c16_i32_842
  v2620
def k0_mult141 (i : grid0.Coords) : BitVec 32 :=
  let arg0 : BitVec 32 := BitVec.ofNat 32 (i 0).val
  let c24_i32 : BitVec 32 := 24#32
  let v3 : BitVec 32 := Scalar.muli arg0 c24_i32
  let c16_i32_848 : BitVec 32 := 16#32
  let v2638 : BitVec 32 := Scalar.addi v3 c16_i32_848
  v2638
def k0_mult142 (i : grid0.Coords) : BitVec 32 :=
  let arg0 : BitVec 32 := BitVec.ofNat 32 (i 0).val
  let c24_i32 : BitVec 32 := 24#32
  let v3 : BitVec 32 := Scalar.muli arg0 c24_i32
  let c16_i32_854 : BitVec 32 := 16#32
  let v2656 : BitVec 32 := Scalar.addi v3 c16_i32_854
  v2656
def k0_mult143 (i : grid0.Coords) : BitVec 32 :=
  let arg0 : BitVec 32 := BitVec.ofNat 32 (i 0).val
  let c24_i32 : BitVec 32 := 24#32
  let v3 : BitVec 32 := Scalar.muli arg0 c24_i32
  let c16_i32_860 : BitVec 32 := 16#32
  let v2674 : BitVec 32 := Scalar.addi v3 c16_i32_860
  v2674
def k0_mult144 (i : grid0.Coords) : BitVec 32 :=
  let arg0 : BitVec 32 := BitVec.ofNat 32 (i 0).val
  let c24_i32 : BitVec 32 := 24#32
  let v3 : BitVec 32 := Scalar.muli arg0 c24_i32
  let c16_i32_866 : BitVec 32 := 16#32
  let v2692 : BitVec 32 := Scalar.addi v3 c16_i32_866
  v2692
def k0_mult145 (i : grid0.Coords) : BitVec 32 :=
  let arg0 : BitVec 32 := BitVec.ofNat 32 (i 0).val
  let c24_i32 : BitVec 32 := 24#32
  let v3 : BitVec 32 := Scalar.muli arg0 c24_i32
  let c16_i32_872 : BitVec 32 := 16#32
  let v2710 : BitVec 32 := Scalar.addi v3 c16_i32_872
  v2710
def k0_mult146 (i : grid0.Coords) : BitVec 32 :=
  let arg0 : BitVec 32 := BitVec.ofNat 32 (i 0).val
  let c24_i32 : BitVec 32 := 24#32
  let v3 : BitVec 32 := Scalar.muli arg0 c24_i32
  let c0_i32_887 : BitVec 32 := 0#32
  let v2750 : BitVec 32 := Scalar.addi v3 c0_i32_887
  v2750
def k0_off45 (i : grid0.Coords) (c0_i32_887 : BitVec 32) : Fin 2 → Nat :=
  let arg0 : BitVec 32 := BitVec.ofNat 32 (i 0).val
  let c24_i32 : BitVec 32 := 24#32
  let v3 : BitVec 32 := Scalar.muli arg0 c24_i32
  let v2750 : BitVec 32 := Scalar.addi v3 c0_i32_887
  let v2751 : BitVec 32 := v2750
  let v2752 : Index := Scalar.indexCast v2751
  let c768_888 : Index := 768#32
  ![v2752.toNat, 768]
def k0_mult147 (i : grid0.Coords) : BitVec 32 :=
  let arg0 : BitVec 32 := BitVec.ofNat 32 (i 0).val
  let c24_i32 : BitVec 32 := 24#32
  let v3 : BitVec 32 := Scalar.muli arg0 c24_i32
  let c0_i32_891 : BitVec 32 := 0#32
  let v2768 : BitVec 32 := Scalar.addi v3 c0_i32_891
  v2768
def k0_mult148 (i : grid0.Coords) : BitVec 32 :=
  let arg0 : BitVec 32 := BitVec.ofNat 32 (i 0).val
  let c24_i32 : BitVec 32 := 24#32
  let v3 : BitVec 32 := Scalar.muli arg0 c24_i32
  let c0_i32_897 : BitVec 32 := 0#32
  let v2786 : BitVec 32 := Scalar.addi v3 c0_i32_897
  v2786
def k0_mult149 (i : grid0.Coords) : BitVec 32 :=
  let arg0 : BitVec 32 := BitVec.ofNat 32 (i 0).val
  let c24_i32 : BitVec 32 := 24#32
  let v3 : BitVec 32 := Scalar.muli arg0 c24_i32
  let c0_i32_903 : BitVec 32 := 0#32
  let v2804 : BitVec 32 := Scalar.addi v3 c0_i32_903
  v2804
def k0_mult150 (i : grid0.Coords) : BitVec 32 :=
  let arg0 : BitVec 32 := BitVec.ofNat 32 (i 0).val
  let c24_i32 : BitVec 32 := 24#32
  let v3 : BitVec 32 := Scalar.muli arg0 c24_i32
  let c0_i32_909 : BitVec 32 := 0#32
  let v2822 : BitVec 32 := Scalar.addi v3 c0_i32_909
  v2822
def k0_mult151 (i : grid0.Coords) : BitVec 32 :=
  let arg0 : BitVec 32 := BitVec.ofNat 32 (i 0).val
  let c24_i32 : BitVec 32 := 24#32
  let v3 : BitVec 32 := Scalar.muli arg0 c24_i32
  let c0_i32_915 : BitVec 32 := 0#32
  let v2840 : BitVec 32 := Scalar.addi v3 c0_i32_915
  v2840
def k0_mult152 (i : grid0.Coords) : BitVec 32 :=
  let arg0 : BitVec 32 := BitVec.ofNat 32 (i 0).val
  let c24_i32 : BitVec 32 := 24#32
  let v3 : BitVec 32 := Scalar.muli arg0 c24_i32
  let c0_i32_921 : BitVec 32 := 0#32
  let v2858 : BitVec 32 := Scalar.addi v3 c0_i32_921
  v2858
def k0_mult153 (i : grid0.Coords) : BitVec 32 :=
  let arg0 : BitVec 32 := BitVec.ofNat 32 (i 0).val
  let c24_i32 : BitVec 32 := 24#32
  let v3 : BitVec 32 := Scalar.muli arg0 c24_i32
  let c0_i32_927 : BitVec 32 := 0#32
  let v2876 : BitVec 32 := Scalar.addi v3 c0_i32_927
  v2876
def k0_mult154 (i : grid0.Coords) : BitVec 32 :=
  let arg0 : BitVec 32 := BitVec.ofNat 32 (i 0).val
  let c24_i32 : BitVec 32 := 24#32
  let v3 : BitVec 32 := Scalar.muli arg0 c24_i32
  let c8_i32_933 : BitVec 32 := 8#32
  let v2894 : BitVec 32 := Scalar.addi v3 c8_i32_933
  v2894
def k0_mult155 (i : grid0.Coords) : BitVec 32 :=
  let arg0 : BitVec 32 := BitVec.ofNat 32 (i 0).val
  let c24_i32 : BitVec 32 := 24#32
  let v3 : BitVec 32 := Scalar.muli arg0 c24_i32
  let c8_i32_939 : BitVec 32 := 8#32
  let v2912 : BitVec 32 := Scalar.addi v3 c8_i32_939
  v2912
def k0_mult156 (i : grid0.Coords) : BitVec 32 :=
  let arg0 : BitVec 32 := BitVec.ofNat 32 (i 0).val
  let c24_i32 : BitVec 32 := 24#32
  let v3 : BitVec 32 := Scalar.muli arg0 c24_i32
  let c8_i32_945 : BitVec 32 := 8#32
  let v2930 : BitVec 32 := Scalar.addi v3 c8_i32_945
  v2930
def k0_mult157 (i : grid0.Coords) : BitVec 32 :=
  let arg0 : BitVec 32 := BitVec.ofNat 32 (i 0).val
  let c24_i32 : BitVec 32 := 24#32
  let v3 : BitVec 32 := Scalar.muli arg0 c24_i32
  let c8_i32_951 : BitVec 32 := 8#32
  let v2948 : BitVec 32 := Scalar.addi v3 c8_i32_951
  v2948
def k0_mult158 (i : grid0.Coords) : BitVec 32 :=
  let arg0 : BitVec 32 := BitVec.ofNat 32 (i 0).val
  let c24_i32 : BitVec 32 := 24#32
  let v3 : BitVec 32 := Scalar.muli arg0 c24_i32
  let c8_i32_957 : BitVec 32 := 8#32
  let v2966 : BitVec 32 := Scalar.addi v3 c8_i32_957
  v2966
def k0_mult159 (i : grid0.Coords) : BitVec 32 :=
  let arg0 : BitVec 32 := BitVec.ofNat 32 (i 0).val
  let c24_i32 : BitVec 32 := 24#32
  let v3 : BitVec 32 := Scalar.muli arg0 c24_i32
  let c8_i32_963 : BitVec 32 := 8#32
  let v2984 : BitVec 32 := Scalar.addi v3 c8_i32_963
  v2984
def k0_mult160 (i : grid0.Coords) : BitVec 32 :=
  let arg0 : BitVec 32 := BitVec.ofNat 32 (i 0).val
  let c24_i32 : BitVec 32 := 24#32
  let v3 : BitVec 32 := Scalar.muli arg0 c24_i32
  let c8_i32_969 : BitVec 32 := 8#32
  let v3002 : BitVec 32 := Scalar.addi v3 c8_i32_969
  v3002
def k0_mult161 (i : grid0.Coords) : BitVec 32 :=
  let arg0 : BitVec 32 := BitVec.ofNat 32 (i 0).val
  let c24_i32 : BitVec 32 := 24#32
  let v3 : BitVec 32 := Scalar.muli arg0 c24_i32
  let c8_i32_975 : BitVec 32 := 8#32
  let v3020 : BitVec 32 := Scalar.addi v3 c8_i32_975
  v3020
def k0_mult162 (i : grid0.Coords) : BitVec 32 :=
  let arg0 : BitVec 32 := BitVec.ofNat 32 (i 0).val
  let c24_i32 : BitVec 32 := 24#32
  let v3 : BitVec 32 := Scalar.muli arg0 c24_i32
  let c16_i32_981 : BitVec 32 := 16#32
  let v3038 : BitVec 32 := Scalar.addi v3 c16_i32_981
  v3038
def k0_mult163 (i : grid0.Coords) : BitVec 32 :=
  let arg0 : BitVec 32 := BitVec.ofNat 32 (i 0).val
  let c24_i32 : BitVec 32 := 24#32
  let v3 : BitVec 32 := Scalar.muli arg0 c24_i32
  let c16_i32_987 : BitVec 32 := 16#32
  let v3056 : BitVec 32 := Scalar.addi v3 c16_i32_987
  v3056
def k0_mult164 (i : grid0.Coords) : BitVec 32 :=
  let arg0 : BitVec 32 := BitVec.ofNat 32 (i 0).val
  let c24_i32 : BitVec 32 := 24#32
  let v3 : BitVec 32 := Scalar.muli arg0 c24_i32
  let c16_i32_993 : BitVec 32 := 16#32
  let v3074 : BitVec 32 := Scalar.addi v3 c16_i32_993
  v3074
def k0_mult165 (i : grid0.Coords) : BitVec 32 :=
  let arg0 : BitVec 32 := BitVec.ofNat 32 (i 0).val
  let c24_i32 : BitVec 32 := 24#32
  let v3 : BitVec 32 := Scalar.muli arg0 c24_i32
  let c16_i32_999 : BitVec 32 := 16#32
  let v3092 : BitVec 32 := Scalar.addi v3 c16_i32_999
  v3092
def k0_mult166 (i : grid0.Coords) : BitVec 32 :=
  let arg0 : BitVec 32 := BitVec.ofNat 32 (i 0).val
  let c24_i32 : BitVec 32 := 24#32
  let v3 : BitVec 32 := Scalar.muli arg0 c24_i32
  let c16_i32_1005 : BitVec 32 := 16#32
  let v3110 : BitVec 32 := Scalar.addi v3 c16_i32_1005
  v3110
def k0_mult167 (i : grid0.Coords) : BitVec 32 :=
  let arg0 : BitVec 32 := BitVec.ofNat 32 (i 0).val
  let c24_i32 : BitVec 32 := 24#32
  let v3 : BitVec 32 := Scalar.muli arg0 c24_i32
  let c16_i32_1011 : BitVec 32 := 16#32
  let v3128 : BitVec 32 := Scalar.addi v3 c16_i32_1011
  v3128
def k0_mult168 (i : grid0.Coords) : BitVec 32 :=
  let arg0 : BitVec 32 := BitVec.ofNat 32 (i 0).val
  let c24_i32 : BitVec 32 := 24#32
  let v3 : BitVec 32 := Scalar.muli arg0 c24_i32
  let c16_i32_1017 : BitVec 32 := 16#32
  let v3146 : BitVec 32 := Scalar.addi v3 c16_i32_1017
  v3146
def k0_mult169 (i : grid0.Coords) : BitVec 32 :=
  let arg0 : BitVec 32 := BitVec.ofNat 32 (i 0).val
  let c24_i32 : BitVec 32 := 24#32
  let v3 : BitVec 32 := Scalar.muli arg0 c24_i32
  let c16_i32_1023 : BitVec 32 := 16#32
  let v3164 : BitVec 32 := Scalar.addi v3 c16_i32_1023
  v3164
def k0_mult170 (i : grid0.Coords) : BitVec 32 :=
  let arg0 : BitVec 32 := BitVec.ofNat 32 (i 0).val
  let c24_i32 : BitVec 32 := 24#32
  let v3 : BitVec 32 := Scalar.muli arg0 c24_i32
  let c0_i32_1038 : BitVec 32 := 0#32
  let v3204 : BitVec 32 := Scalar.addi v3 c0_i32_1038
  v3204
def k0_off46 (i : grid0.Coords) (c0_i32_1038 : BitVec 32) : Fin 2 → Nat :=
  let arg0 : BitVec 32 := BitVec.ofNat 32 (i 0).val
  let c24_i32 : BitVec 32 := 24#32
  let v3 : BitVec 32 := Scalar.muli arg0 c24_i32
  let v3204 : BitVec 32 := Scalar.addi v3 c0_i32_1038
  let v3205 : BitVec 32 := v3204
  let v3206 : Index := Scalar.indexCast v3205
  let c896_1039 : Index := 896#32
  ![v3206.toNat, 896]
def k0_mult171 (i : grid0.Coords) : BitVec 32 :=
  let arg0 : BitVec 32 := BitVec.ofNat 32 (i 0).val
  let c24_i32 : BitVec 32 := 24#32
  let v3 : BitVec 32 := Scalar.muli arg0 c24_i32
  let c0_i32_1042 : BitVec 32 := 0#32
  let v3222 : BitVec 32 := Scalar.addi v3 c0_i32_1042
  v3222
def k0_mult172 (i : grid0.Coords) : BitVec 32 :=
  let arg0 : BitVec 32 := BitVec.ofNat 32 (i 0).val
  let c24_i32 : BitVec 32 := 24#32
  let v3 : BitVec 32 := Scalar.muli arg0 c24_i32
  let c0_i32_1048 : BitVec 32 := 0#32
  let v3240 : BitVec 32 := Scalar.addi v3 c0_i32_1048
  v3240
def k0_mult173 (i : grid0.Coords) : BitVec 32 :=
  let arg0 : BitVec 32 := BitVec.ofNat 32 (i 0).val
  let c24_i32 : BitVec 32 := 24#32
  let v3 : BitVec 32 := Scalar.muli arg0 c24_i32
  let c0_i32_1054 : BitVec 32 := 0#32
  let v3258 : BitVec 32 := Scalar.addi v3 c0_i32_1054
  v3258
def k0_mult174 (i : grid0.Coords) : BitVec 32 :=
  let arg0 : BitVec 32 := BitVec.ofNat 32 (i 0).val
  let c24_i32 : BitVec 32 := 24#32
  let v3 : BitVec 32 := Scalar.muli arg0 c24_i32
  let c0_i32_1060 : BitVec 32 := 0#32
  let v3276 : BitVec 32 := Scalar.addi v3 c0_i32_1060
  v3276
def k0_mult175 (i : grid0.Coords) : BitVec 32 :=
  let arg0 : BitVec 32 := BitVec.ofNat 32 (i 0).val
  let c24_i32 : BitVec 32 := 24#32
  let v3 : BitVec 32 := Scalar.muli arg0 c24_i32
  let c0_i32_1066 : BitVec 32 := 0#32
  let v3294 : BitVec 32 := Scalar.addi v3 c0_i32_1066
  v3294
def k0_mult176 (i : grid0.Coords) : BitVec 32 :=
  let arg0 : BitVec 32 := BitVec.ofNat 32 (i 0).val
  let c24_i32 : BitVec 32 := 24#32
  let v3 : BitVec 32 := Scalar.muli arg0 c24_i32
  let c0_i32_1072 : BitVec 32 := 0#32
  let v3312 : BitVec 32 := Scalar.addi v3 c0_i32_1072
  v3312
def k0_mult177 (i : grid0.Coords) : BitVec 32 :=
  let arg0 : BitVec 32 := BitVec.ofNat 32 (i 0).val
  let c24_i32 : BitVec 32 := 24#32
  let v3 : BitVec 32 := Scalar.muli arg0 c24_i32
  let c0_i32_1078 : BitVec 32 := 0#32
  let v3330 : BitVec 32 := Scalar.addi v3 c0_i32_1078
  v3330
def k0_mult178 (i : grid0.Coords) : BitVec 32 :=
  let arg0 : BitVec 32 := BitVec.ofNat 32 (i 0).val
  let c24_i32 : BitVec 32 := 24#32
  let v3 : BitVec 32 := Scalar.muli arg0 c24_i32
  let c8_i32_1084 : BitVec 32 := 8#32
  let v3348 : BitVec 32 := Scalar.addi v3 c8_i32_1084
  v3348
def k0_mult179 (i : grid0.Coords) : BitVec 32 :=
  let arg0 : BitVec 32 := BitVec.ofNat 32 (i 0).val
  let c24_i32 : BitVec 32 := 24#32
  let v3 : BitVec 32 := Scalar.muli arg0 c24_i32
  let c8_i32_1090 : BitVec 32 := 8#32
  let v3366 : BitVec 32 := Scalar.addi v3 c8_i32_1090
  v3366
def k0_mult180 (i : grid0.Coords) : BitVec 32 :=
  let arg0 : BitVec 32 := BitVec.ofNat 32 (i 0).val
  let c24_i32 : BitVec 32 := 24#32
  let v3 : BitVec 32 := Scalar.muli arg0 c24_i32
  let c8_i32_1096 : BitVec 32 := 8#32
  let v3384 : BitVec 32 := Scalar.addi v3 c8_i32_1096
  v3384
def k0_mult181 (i : grid0.Coords) : BitVec 32 :=
  let arg0 : BitVec 32 := BitVec.ofNat 32 (i 0).val
  let c24_i32 : BitVec 32 := 24#32
  let v3 : BitVec 32 := Scalar.muli arg0 c24_i32
  let c8_i32_1102 : BitVec 32 := 8#32
  let v3402 : BitVec 32 := Scalar.addi v3 c8_i32_1102
  v3402
def k0_mult182 (i : grid0.Coords) : BitVec 32 :=
  let arg0 : BitVec 32 := BitVec.ofNat 32 (i 0).val
  let c24_i32 : BitVec 32 := 24#32
  let v3 : BitVec 32 := Scalar.muli arg0 c24_i32
  let c8_i32_1108 : BitVec 32 := 8#32
  let v3420 : BitVec 32 := Scalar.addi v3 c8_i32_1108
  v3420
def k0_mult183 (i : grid0.Coords) : BitVec 32 :=
  let arg0 : BitVec 32 := BitVec.ofNat 32 (i 0).val
  let c24_i32 : BitVec 32 := 24#32
  let v3 : BitVec 32 := Scalar.muli arg0 c24_i32
  let c8_i32_1114 : BitVec 32 := 8#32
  let v3438 : BitVec 32 := Scalar.addi v3 c8_i32_1114
  v3438
def k0_mult184 (i : grid0.Coords) : BitVec 32 :=
  let arg0 : BitVec 32 := BitVec.ofNat 32 (i 0).val
  let c24_i32 : BitVec 32 := 24#32
  let v3 : BitVec 32 := Scalar.muli arg0 c24_i32
  let c8_i32_1120 : BitVec 32 := 8#32
  let v3456 : BitVec 32 := Scalar.addi v3 c8_i32_1120
  v3456
def k0_mult185 (i : grid0.Coords) : BitVec 32 :=
  let arg0 : BitVec 32 := BitVec.ofNat 32 (i 0).val
  let c24_i32 : BitVec 32 := 24#32
  let v3 : BitVec 32 := Scalar.muli arg0 c24_i32
  let c8_i32_1126 : BitVec 32 := 8#32
  let v3474 : BitVec 32 := Scalar.addi v3 c8_i32_1126
  v3474
def k0_mult186 (i : grid0.Coords) : BitVec 32 :=
  let arg0 : BitVec 32 := BitVec.ofNat 32 (i 0).val
  let c24_i32 : BitVec 32 := 24#32
  let v3 : BitVec 32 := Scalar.muli arg0 c24_i32
  let c16_i32_1132 : BitVec 32 := 16#32
  let v3492 : BitVec 32 := Scalar.addi v3 c16_i32_1132
  v3492
def k0_mult187 (i : grid0.Coords) : BitVec 32 :=
  let arg0 : BitVec 32 := BitVec.ofNat 32 (i 0).val
  let c24_i32 : BitVec 32 := 24#32
  let v3 : BitVec 32 := Scalar.muli arg0 c24_i32
  let c16_i32_1138 : BitVec 32 := 16#32
  let v3510 : BitVec 32 := Scalar.addi v3 c16_i32_1138
  v3510
def k0_mult188 (i : grid0.Coords) : BitVec 32 :=
  let arg0 : BitVec 32 := BitVec.ofNat 32 (i 0).val
  let c24_i32 : BitVec 32 := 24#32
  let v3 : BitVec 32 := Scalar.muli arg0 c24_i32
  let c16_i32_1144 : BitVec 32 := 16#32
  let v3528 : BitVec 32 := Scalar.addi v3 c16_i32_1144
  v3528
def k0_mult189 (i : grid0.Coords) : BitVec 32 :=
  let arg0 : BitVec 32 := BitVec.ofNat 32 (i 0).val
  let c24_i32 : BitVec 32 := 24#32
  let v3 : BitVec 32 := Scalar.muli arg0 c24_i32
  let c16_i32_1150 : BitVec 32 := 16#32
  let v3546 : BitVec 32 := Scalar.addi v3 c16_i32_1150
  v3546
def k0_mult190 (i : grid0.Coords) : BitVec 32 :=
  let arg0 : BitVec 32 := BitVec.ofNat 32 (i 0).val
  let c24_i32 : BitVec 32 := 24#32
  let v3 : BitVec 32 := Scalar.muli arg0 c24_i32
  let c16_i32_1156 : BitVec 32 := 16#32
  let v3564 : BitVec 32 := Scalar.addi v3 c16_i32_1156
  v3564
def k0_mult191 (i : grid0.Coords) : BitVec 32 :=
  let arg0 : BitVec 32 := BitVec.ofNat 32 (i 0).val
  let c24_i32 : BitVec 32 := 24#32
  let v3 : BitVec 32 := Scalar.muli arg0 c24_i32
  let c16_i32_1162 : BitVec 32 := 16#32
  let v3582 : BitVec 32 := Scalar.addi v3 c16_i32_1162
  v3582
def k0_mult192 (i : grid0.Coords) : BitVec 32 :=
  let arg0 : BitVec 32 := BitVec.ofNat 32 (i 0).val
  let c24_i32 : BitVec 32 := 24#32
  let v3 : BitVec 32 := Scalar.muli arg0 c24_i32
  let c16_i32_1168 : BitVec 32 := 16#32
  let v3600 : BitVec 32 := Scalar.addi v3 c16_i32_1168
  v3600
def k0_mult193 (i : grid0.Coords) : BitVec 32 :=
  let arg0 : BitVec 32 := BitVec.ofNat 32 (i 0).val
  let c24_i32 : BitVec 32 := 24#32
  let v3 : BitVec 32 := Scalar.muli arg0 c24_i32
  let c16_i32_1174 : BitVec 32 := 16#32
  let v3618 : BitVec 32 := Scalar.addi v3 c16_i32_1174
  v3618
def k0_mult194 (i : grid0.Coords) : BitVec 32 :=
  let arg0 : BitVec 32 := BitVec.ofNat 32 (i 0).val
  let c24_i32 : BitVec 32 := 24#32
  let v3 : BitVec 32 := Scalar.muli arg0 c24_i32
  let c0_i32_1189 : BitVec 32 := 0#32
  let v3658 : BitVec 32 := Scalar.addi v3 c0_i32_1189
  v3658
def k0_off47 (i : grid0.Coords) (c0_i32_1189 : BitVec 32) : Fin 2 → Nat :=
  let arg0 : BitVec 32 := BitVec.ofNat 32 (i 0).val
  let c24_i32 : BitVec 32 := 24#32
  let v3 : BitVec 32 := Scalar.muli arg0 c24_i32
  let v3658 : BitVec 32 := Scalar.addi v3 c0_i32_1189
  let v3659 : BitVec 32 := v3658
  let v3660 : Index := Scalar.indexCast v3659
  let c1024_1190 : Index := 1024#32
  ![v3660.toNat, 1024]
def k0_mult195 (i : grid0.Coords) : BitVec 32 :=
  let arg0 : BitVec 32 := BitVec.ofNat 32 (i 0).val
  let c24_i32 : BitVec 32 := 24#32
  let v3 : BitVec 32 := Scalar.muli arg0 c24_i32
  let c0_i32_1193 : BitVec 32 := 0#32
  let v3676 : BitVec 32 := Scalar.addi v3 c0_i32_1193
  v3676
def k0_mult196 (i : grid0.Coords) : BitVec 32 :=
  let arg0 : BitVec 32 := BitVec.ofNat 32 (i 0).val
  let c24_i32 : BitVec 32 := 24#32
  let v3 : BitVec 32 := Scalar.muli arg0 c24_i32
  let c0_i32_1199 : BitVec 32 := 0#32
  let v3694 : BitVec 32 := Scalar.addi v3 c0_i32_1199
  v3694
def k0_mult197 (i : grid0.Coords) : BitVec 32 :=
  let arg0 : BitVec 32 := BitVec.ofNat 32 (i 0).val
  let c24_i32 : BitVec 32 := 24#32
  let v3 : BitVec 32 := Scalar.muli arg0 c24_i32
  let c0_i32_1205 : BitVec 32 := 0#32
  let v3712 : BitVec 32 := Scalar.addi v3 c0_i32_1205
  v3712
def k0_mult198 (i : grid0.Coords) : BitVec 32 :=
  let arg0 : BitVec 32 := BitVec.ofNat 32 (i 0).val
  let c24_i32 : BitVec 32 := 24#32
  let v3 : BitVec 32 := Scalar.muli arg0 c24_i32
  let c0_i32_1211 : BitVec 32 := 0#32
  let v3730 : BitVec 32 := Scalar.addi v3 c0_i32_1211
  v3730
def k0_mult199 (i : grid0.Coords) : BitVec 32 :=
  let arg0 : BitVec 32 := BitVec.ofNat 32 (i 0).val
  let c24_i32 : BitVec 32 := 24#32
  let v3 : BitVec 32 := Scalar.muli arg0 c24_i32
  let c0_i32_1217 : BitVec 32 := 0#32
  let v3748 : BitVec 32 := Scalar.addi v3 c0_i32_1217
  v3748
def k0_mult200 (i : grid0.Coords) : BitVec 32 :=
  let arg0 : BitVec 32 := BitVec.ofNat 32 (i 0).val
  let c24_i32 : BitVec 32 := 24#32
  let v3 : BitVec 32 := Scalar.muli arg0 c24_i32
  let c0_i32_1223 : BitVec 32 := 0#32
  let v3766 : BitVec 32 := Scalar.addi v3 c0_i32_1223
  v3766
def k0_mult201 (i : grid0.Coords) : BitVec 32 :=
  let arg0 : BitVec 32 := BitVec.ofNat 32 (i 0).val
  let c24_i32 : BitVec 32 := 24#32
  let v3 : BitVec 32 := Scalar.muli arg0 c24_i32
  let c0_i32_1229 : BitVec 32 := 0#32
  let v3784 : BitVec 32 := Scalar.addi v3 c0_i32_1229
  v3784
def k0_mult202 (i : grid0.Coords) : BitVec 32 :=
  let arg0 : BitVec 32 := BitVec.ofNat 32 (i 0).val
  let c24_i32 : BitVec 32 := 24#32
  let v3 : BitVec 32 := Scalar.muli arg0 c24_i32
  let c8_i32_1235 : BitVec 32 := 8#32
  let v3802 : BitVec 32 := Scalar.addi v3 c8_i32_1235
  v3802
def k0_mult203 (i : grid0.Coords) : BitVec 32 :=
  let arg0 : BitVec 32 := BitVec.ofNat 32 (i 0).val
  let c24_i32 : BitVec 32 := 24#32
  let v3 : BitVec 32 := Scalar.muli arg0 c24_i32
  let c8_i32_1241 : BitVec 32 := 8#32
  let v3820 : BitVec 32 := Scalar.addi v3 c8_i32_1241
  v3820
def k0_mult204 (i : grid0.Coords) : BitVec 32 :=
  let arg0 : BitVec 32 := BitVec.ofNat 32 (i 0).val
  let c24_i32 : BitVec 32 := 24#32
  let v3 : BitVec 32 := Scalar.muli arg0 c24_i32
  let c8_i32_1247 : BitVec 32 := 8#32
  let v3838 : BitVec 32 := Scalar.addi v3 c8_i32_1247
  v3838
def k0_mult205 (i : grid0.Coords) : BitVec 32 :=
  let arg0 : BitVec 32 := BitVec.ofNat 32 (i 0).val
  let c24_i32 : BitVec 32 := 24#32
  let v3 : BitVec 32 := Scalar.muli arg0 c24_i32
  let c8_i32_1253 : BitVec 32 := 8#32
  let v3856 : BitVec 32 := Scalar.addi v3 c8_i32_1253
  v3856
def k0_mult206 (i : grid0.Coords) : BitVec 32 :=
  let arg0 : BitVec 32 := BitVec.ofNat 32 (i 0).val
  let c24_i32 : BitVec 32 := 24#32
  let v3 : BitVec 32 := Scalar.muli arg0 c24_i32
  let c8_i32_1259 : BitVec 32 := 8#32
  let v3874 : BitVec 32 := Scalar.addi v3 c8_i32_1259
  v3874
def k0_mult207 (i : grid0.Coords) : BitVec 32 :=
  let arg0 : BitVec 32 := BitVec.ofNat 32 (i 0).val
  let c24_i32 : BitVec 32 := 24#32
  let v3 : BitVec 32 := Scalar.muli arg0 c24_i32
  let c8_i32_1265 : BitVec 32 := 8#32
  let v3892 : BitVec 32 := Scalar.addi v3 c8_i32_1265
  v3892
def k0_mult208 (i : grid0.Coords) : BitVec 32 :=
  let arg0 : BitVec 32 := BitVec.ofNat 32 (i 0).val
  let c24_i32 : BitVec 32 := 24#32
  let v3 : BitVec 32 := Scalar.muli arg0 c24_i32
  let c8_i32_1271 : BitVec 32 := 8#32
  let v3910 : BitVec 32 := Scalar.addi v3 c8_i32_1271
  v3910
def k0_mult209 (i : grid0.Coords) : BitVec 32 :=
  let arg0 : BitVec 32 := BitVec.ofNat 32 (i 0).val
  let c24_i32 : BitVec 32 := 24#32
  let v3 : BitVec 32 := Scalar.muli arg0 c24_i32
  let c8_i32_1277 : BitVec 32 := 8#32
  let v3928 : BitVec 32 := Scalar.addi v3 c8_i32_1277
  v3928
def k0_mult210 (i : grid0.Coords) : BitVec 32 :=
  let arg0 : BitVec 32 := BitVec.ofNat 32 (i 0).val
  let c24_i32 : BitVec 32 := 24#32
  let v3 : BitVec 32 := Scalar.muli arg0 c24_i32
  let c16_i32_1283 : BitVec 32 := 16#32
  let v3946 : BitVec 32 := Scalar.addi v3 c16_i32_1283
  v3946
def k0_mult211 (i : grid0.Coords) : BitVec 32 :=
  let arg0 : BitVec 32 := BitVec.ofNat 32 (i 0).val
  let c24_i32 : BitVec 32 := 24#32
  let v3 : BitVec 32 := Scalar.muli arg0 c24_i32
  let c16_i32_1289 : BitVec 32 := 16#32
  let v3964 : BitVec 32 := Scalar.addi v3 c16_i32_1289
  v3964
def k0_mult212 (i : grid0.Coords) : BitVec 32 :=
  let arg0 : BitVec 32 := BitVec.ofNat 32 (i 0).val
  let c24_i32 : BitVec 32 := 24#32
  let v3 : BitVec 32 := Scalar.muli arg0 c24_i32
  let c16_i32_1295 : BitVec 32 := 16#32
  let v3982 : BitVec 32 := Scalar.addi v3 c16_i32_1295
  v3982
def k0_mult213 (i : grid0.Coords) : BitVec 32 :=
  let arg0 : BitVec 32 := BitVec.ofNat 32 (i 0).val
  let c24_i32 : BitVec 32 := 24#32
  let v3 : BitVec 32 := Scalar.muli arg0 c24_i32
  let c16_i32_1301 : BitVec 32 := 16#32
  let v4000 : BitVec 32 := Scalar.addi v3 c16_i32_1301
  v4000
def k0_mult214 (i : grid0.Coords) : BitVec 32 :=
  let arg0 : BitVec 32 := BitVec.ofNat 32 (i 0).val
  let c24_i32 : BitVec 32 := 24#32
  let v3 : BitVec 32 := Scalar.muli arg0 c24_i32
  let c16_i32_1307 : BitVec 32 := 16#32
  let v4018 : BitVec 32 := Scalar.addi v3 c16_i32_1307
  v4018
def k0_mult215 (i : grid0.Coords) : BitVec 32 :=
  let arg0 : BitVec 32 := BitVec.ofNat 32 (i 0).val
  let c24_i32 : BitVec 32 := 24#32
  let v3 : BitVec 32 := Scalar.muli arg0 c24_i32
  let c16_i32_1313 : BitVec 32 := 16#32
  let v4036 : BitVec 32 := Scalar.addi v3 c16_i32_1313
  v4036
def k0_mult216 (i : grid0.Coords) : BitVec 32 :=
  let arg0 : BitVec 32 := BitVec.ofNat 32 (i 0).val
  let c24_i32 : BitVec 32 := 24#32
  let v3 : BitVec 32 := Scalar.muli arg0 c24_i32
  let c16_i32_1319 : BitVec 32 := 16#32
  let v4054 : BitVec 32 := Scalar.addi v3 c16_i32_1319
  v4054
def k0_mult217 (i : grid0.Coords) : BitVec 32 :=
  let arg0 : BitVec 32 := BitVec.ofNat 32 (i 0).val
  let c24_i32 : BitVec 32 := 24#32
  let v3 : BitVec 32 := Scalar.muli arg0 c24_i32
  let c16_i32_1325 : BitVec 32 := 16#32
  let v4072 : BitVec 32 := Scalar.addi v3 c16_i32_1325
  v4072
def k0_mult218 (i : grid0.Coords) : BitVec 32 :=
  let arg0 : BitVec 32 := BitVec.ofNat 32 (i 0).val
  let c24_i32 : BitVec 32 := 24#32
  let v3 : BitVec 32 := Scalar.muli arg0 c24_i32
  let c0_i32_1340 : BitVec 32 := 0#32
  let v4112 : BitVec 32 := Scalar.addi v3 c0_i32_1340
  v4112
def k0_off48 (i : grid0.Coords) (c0_i32_1340 : BitVec 32) : Fin 2 → Nat :=
  let arg0 : BitVec 32 := BitVec.ofNat 32 (i 0).val
  let c24_i32 : BitVec 32 := 24#32
  let v3 : BitVec 32 := Scalar.muli arg0 c24_i32
  let v4112 : BitVec 32 := Scalar.addi v3 c0_i32_1340
  let v4113 : BitVec 32 := v4112
  let v4114 : Index := Scalar.indexCast v4113
  let c1152_1341 : Index := 1152#32
  ![v4114.toNat, 1152]
def k0_mult219 (i : grid0.Coords) : BitVec 32 :=
  let arg0 : BitVec 32 := BitVec.ofNat 32 (i 0).val
  let c24_i32 : BitVec 32 := 24#32
  let v3 : BitVec 32 := Scalar.muli arg0 c24_i32
  let c0_i32_1344 : BitVec 32 := 0#32
  let v4130 : BitVec 32 := Scalar.addi v3 c0_i32_1344
  v4130
def k0_mult220 (i : grid0.Coords) : BitVec 32 :=
  let arg0 : BitVec 32 := BitVec.ofNat 32 (i 0).val
  let c24_i32 : BitVec 32 := 24#32
  let v3 : BitVec 32 := Scalar.muli arg0 c24_i32
  let c0_i32_1350 : BitVec 32 := 0#32
  let v4148 : BitVec 32 := Scalar.addi v3 c0_i32_1350
  v4148
def k0_mult221 (i : grid0.Coords) : BitVec 32 :=
  let arg0 : BitVec 32 := BitVec.ofNat 32 (i 0).val
  let c24_i32 : BitVec 32 := 24#32
  let v3 : BitVec 32 := Scalar.muli arg0 c24_i32
  let c0_i32_1356 : BitVec 32 := 0#32
  let v4166 : BitVec 32 := Scalar.addi v3 c0_i32_1356
  v4166
def k0_mult222 (i : grid0.Coords) : BitVec 32 :=
  let arg0 : BitVec 32 := BitVec.ofNat 32 (i 0).val
  let c24_i32 : BitVec 32 := 24#32
  let v3 : BitVec 32 := Scalar.muli arg0 c24_i32
  let c0_i32_1362 : BitVec 32 := 0#32
  let v4184 : BitVec 32 := Scalar.addi v3 c0_i32_1362
  v4184
def k0_mult223 (i : grid0.Coords) : BitVec 32 :=
  let arg0 : BitVec 32 := BitVec.ofNat 32 (i 0).val
  let c24_i32 : BitVec 32 := 24#32
  let v3 : BitVec 32 := Scalar.muli arg0 c24_i32
  let c0_i32_1368 : BitVec 32 := 0#32
  let v4202 : BitVec 32 := Scalar.addi v3 c0_i32_1368
  v4202
def k0_mult224 (i : grid0.Coords) : BitVec 32 :=
  let arg0 : BitVec 32 := BitVec.ofNat 32 (i 0).val
  let c24_i32 : BitVec 32 := 24#32
  let v3 : BitVec 32 := Scalar.muli arg0 c24_i32
  let c0_i32_1374 : BitVec 32 := 0#32
  let v4220 : BitVec 32 := Scalar.addi v3 c0_i32_1374
  v4220
def k0_mult225 (i : grid0.Coords) : BitVec 32 :=
  let arg0 : BitVec 32 := BitVec.ofNat 32 (i 0).val
  let c24_i32 : BitVec 32 := 24#32
  let v3 : BitVec 32 := Scalar.muli arg0 c24_i32
  let c0_i32_1380 : BitVec 32 := 0#32
  let v4238 : BitVec 32 := Scalar.addi v3 c0_i32_1380
  v4238
def k0_mult226 (i : grid0.Coords) : BitVec 32 :=
  let arg0 : BitVec 32 := BitVec.ofNat 32 (i 0).val
  let c24_i32 : BitVec 32 := 24#32
  let v3 : BitVec 32 := Scalar.muli arg0 c24_i32
  let c8_i32_1386 : BitVec 32 := 8#32
  let v4256 : BitVec 32 := Scalar.addi v3 c8_i32_1386
  v4256
def k0_mult227 (i : grid0.Coords) : BitVec 32 :=
  let arg0 : BitVec 32 := BitVec.ofNat 32 (i 0).val
  let c24_i32 : BitVec 32 := 24#32
  let v3 : BitVec 32 := Scalar.muli arg0 c24_i32
  let c8_i32_1392 : BitVec 32 := 8#32
  let v4274 : BitVec 32 := Scalar.addi v3 c8_i32_1392
  v4274
def k0_mult228 (i : grid0.Coords) : BitVec 32 :=
  let arg0 : BitVec 32 := BitVec.ofNat 32 (i 0).val
  let c24_i32 : BitVec 32 := 24#32
  let v3 : BitVec 32 := Scalar.muli arg0 c24_i32
  let c8_i32_1398 : BitVec 32 := 8#32
  let v4292 : BitVec 32 := Scalar.addi v3 c8_i32_1398
  v4292
def k0_mult229 (i : grid0.Coords) : BitVec 32 :=
  let arg0 : BitVec 32 := BitVec.ofNat 32 (i 0).val
  let c24_i32 : BitVec 32 := 24#32
  let v3 : BitVec 32 := Scalar.muli arg0 c24_i32
  let c8_i32_1404 : BitVec 32 := 8#32
  let v4310 : BitVec 32 := Scalar.addi v3 c8_i32_1404
  v4310
def k0_mult230 (i : grid0.Coords) : BitVec 32 :=
  let arg0 : BitVec 32 := BitVec.ofNat 32 (i 0).val
  let c24_i32 : BitVec 32 := 24#32
  let v3 : BitVec 32 := Scalar.muli arg0 c24_i32
  let c8_i32_1410 : BitVec 32 := 8#32
  let v4328 : BitVec 32 := Scalar.addi v3 c8_i32_1410
  v4328
def k0_mult231 (i : grid0.Coords) : BitVec 32 :=
  let arg0 : BitVec 32 := BitVec.ofNat 32 (i 0).val
  let c24_i32 : BitVec 32 := 24#32
  let v3 : BitVec 32 := Scalar.muli arg0 c24_i32
  let c8_i32_1416 : BitVec 32 := 8#32
  let v4346 : BitVec 32 := Scalar.addi v3 c8_i32_1416
  v4346
def k0_mult232 (i : grid0.Coords) : BitVec 32 :=
  let arg0 : BitVec 32 := BitVec.ofNat 32 (i 0).val
  let c24_i32 : BitVec 32 := 24#32
  let v3 : BitVec 32 := Scalar.muli arg0 c24_i32
  let c8_i32_1422 : BitVec 32 := 8#32
  let v4364 : BitVec 32 := Scalar.addi v3 c8_i32_1422
  v4364
def k0_mult233 (i : grid0.Coords) : BitVec 32 :=
  let arg0 : BitVec 32 := BitVec.ofNat 32 (i 0).val
  let c24_i32 : BitVec 32 := 24#32
  let v3 : BitVec 32 := Scalar.muli arg0 c24_i32
  let c8_i32_1428 : BitVec 32 := 8#32
  let v4382 : BitVec 32 := Scalar.addi v3 c8_i32_1428
  v4382
def k0_mult234 (i : grid0.Coords) : BitVec 32 :=
  let arg0 : BitVec 32 := BitVec.ofNat 32 (i 0).val
  let c24_i32 : BitVec 32 := 24#32
  let v3 : BitVec 32 := Scalar.muli arg0 c24_i32
  let c16_i32_1434 : BitVec 32 := 16#32
  let v4400 : BitVec 32 := Scalar.addi v3 c16_i32_1434
  v4400
def k0_mult235 (i : grid0.Coords) : BitVec 32 :=
  let arg0 : BitVec 32 := BitVec.ofNat 32 (i 0).val
  let c24_i32 : BitVec 32 := 24#32
  let v3 : BitVec 32 := Scalar.muli arg0 c24_i32
  let c16_i32_1440 : BitVec 32 := 16#32
  let v4418 : BitVec 32 := Scalar.addi v3 c16_i32_1440
  v4418
def k0_mult236 (i : grid0.Coords) : BitVec 32 :=
  let arg0 : BitVec 32 := BitVec.ofNat 32 (i 0).val
  let c24_i32 : BitVec 32 := 24#32
  let v3 : BitVec 32 := Scalar.muli arg0 c24_i32
  let c16_i32_1446 : BitVec 32 := 16#32
  let v4436 : BitVec 32 := Scalar.addi v3 c16_i32_1446
  v4436
def k0_mult237 (i : grid0.Coords) : BitVec 32 :=
  let arg0 : BitVec 32 := BitVec.ofNat 32 (i 0).val
  let c24_i32 : BitVec 32 := 24#32
  let v3 : BitVec 32 := Scalar.muli arg0 c24_i32
  let c16_i32_1452 : BitVec 32 := 16#32
  let v4454 : BitVec 32 := Scalar.addi v3 c16_i32_1452
  v4454
def k0_mult238 (i : grid0.Coords) : BitVec 32 :=
  let arg0 : BitVec 32 := BitVec.ofNat 32 (i 0).val
  let c24_i32 : BitVec 32 := 24#32
  let v3 : BitVec 32 := Scalar.muli arg0 c24_i32
  let c16_i32_1458 : BitVec 32 := 16#32
  let v4472 : BitVec 32 := Scalar.addi v3 c16_i32_1458
  v4472
def k0_mult239 (i : grid0.Coords) : BitVec 32 :=
  let arg0 : BitVec 32 := BitVec.ofNat 32 (i 0).val
  let c24_i32 : BitVec 32 := 24#32
  let v3 : BitVec 32 := Scalar.muli arg0 c24_i32
  let c16_i32_1464 : BitVec 32 := 16#32
  let v4490 : BitVec 32 := Scalar.addi v3 c16_i32_1464
  v4490
def k0_mult240 (i : grid0.Coords) : BitVec 32 :=
  let arg0 : BitVec 32 := BitVec.ofNat 32 (i 0).val
  let c24_i32 : BitVec 32 := 24#32
  let v3 : BitVec 32 := Scalar.muli arg0 c24_i32
  let c16_i32_1470 : BitVec 32 := 16#32
  let v4508 : BitVec 32 := Scalar.addi v3 c16_i32_1470
  v4508
def k0_mult241 (i : grid0.Coords) : BitVec 32 :=
  let arg0 : BitVec 32 := BitVec.ofNat 32 (i 0).val
  let c24_i32 : BitVec 32 := 24#32
  let v3 : BitVec 32 := Scalar.muli arg0 c24_i32
  let c16_i32_1476 : BitVec 32 := 16#32
  let v4526 : BitVec 32 := Scalar.addi v3 c16_i32_1476
  v4526
def k0_mult242 (i : grid0.Coords) : BitVec 32 :=
  let arg0 : BitVec 32 := BitVec.ofNat 32 (i 0).val
  let c24_i32 : BitVec 32 := 24#32
  let v3 : BitVec 32 := Scalar.muli arg0 c24_i32
  let c0_i32_1491 : BitVec 32 := 0#32
  let v4566 : BitVec 32 := Scalar.addi v3 c0_i32_1491
  v4566
def k0_off49 (i : grid0.Coords) (c0_i32_1491 : BitVec 32) : Fin 2 → Nat :=
  let arg0 : BitVec 32 := BitVec.ofNat 32 (i 0).val
  let c24_i32 : BitVec 32 := 24#32
  let v3 : BitVec 32 := Scalar.muli arg0 c24_i32
  let v4566 : BitVec 32 := Scalar.addi v3 c0_i32_1491
  let v4567 : BitVec 32 := v4566
  let v4568 : Index := Scalar.indexCast v4567
  let c1280_1492 : Index := 1280#32
  ![v4568.toNat, 1280]
def k0_mult243 (i : grid0.Coords) : BitVec 32 :=
  let arg0 : BitVec 32 := BitVec.ofNat 32 (i 0).val
  let c24_i32 : BitVec 32 := 24#32
  let v3 : BitVec 32 := Scalar.muli arg0 c24_i32
  let c0_i32_1495 : BitVec 32 := 0#32
  let v4584 : BitVec 32 := Scalar.addi v3 c0_i32_1495
  v4584
def k0_mult244 (i : grid0.Coords) : BitVec 32 :=
  let arg0 : BitVec 32 := BitVec.ofNat 32 (i 0).val
  let c24_i32 : BitVec 32 := 24#32
  let v3 : BitVec 32 := Scalar.muli arg0 c24_i32
  let c0_i32_1501 : BitVec 32 := 0#32
  let v4602 : BitVec 32 := Scalar.addi v3 c0_i32_1501
  v4602
def k0_mult245 (i : grid0.Coords) : BitVec 32 :=
  let arg0 : BitVec 32 := BitVec.ofNat 32 (i 0).val
  let c24_i32 : BitVec 32 := 24#32
  let v3 : BitVec 32 := Scalar.muli arg0 c24_i32
  let c0_i32_1507 : BitVec 32 := 0#32
  let v4620 : BitVec 32 := Scalar.addi v3 c0_i32_1507
  v4620
def k0_mult246 (i : grid0.Coords) : BitVec 32 :=
  let arg0 : BitVec 32 := BitVec.ofNat 32 (i 0).val
  let c24_i32 : BitVec 32 := 24#32
  let v3 : BitVec 32 := Scalar.muli arg0 c24_i32
  let c0_i32_1513 : BitVec 32 := 0#32
  let v4638 : BitVec 32 := Scalar.addi v3 c0_i32_1513
  v4638
def k0_mult247 (i : grid0.Coords) : BitVec 32 :=
  let arg0 : BitVec 32 := BitVec.ofNat 32 (i 0).val
  let c24_i32 : BitVec 32 := 24#32
  let v3 : BitVec 32 := Scalar.muli arg0 c24_i32
  let c0_i32_1519 : BitVec 32 := 0#32
  let v4656 : BitVec 32 := Scalar.addi v3 c0_i32_1519
  v4656
def k0_mult248 (i : grid0.Coords) : BitVec 32 :=
  let arg0 : BitVec 32 := BitVec.ofNat 32 (i 0).val
  let c24_i32 : BitVec 32 := 24#32
  let v3 : BitVec 32 := Scalar.muli arg0 c24_i32
  let c0_i32_1525 : BitVec 32 := 0#32
  let v4674 : BitVec 32 := Scalar.addi v3 c0_i32_1525
  v4674
def k0_mult249 (i : grid0.Coords) : BitVec 32 :=
  let arg0 : BitVec 32 := BitVec.ofNat 32 (i 0).val
  let c24_i32 : BitVec 32 := 24#32
  let v3 : BitVec 32 := Scalar.muli arg0 c24_i32
  let c0_i32_1531 : BitVec 32 := 0#32
  let v4692 : BitVec 32 := Scalar.addi v3 c0_i32_1531
  v4692
def k0_mult250 (i : grid0.Coords) : BitVec 32 :=
  let arg0 : BitVec 32 := BitVec.ofNat 32 (i 0).val
  let c24_i32 : BitVec 32 := 24#32
  let v3 : BitVec 32 := Scalar.muli arg0 c24_i32
  let c8_i32_1537 : BitVec 32 := 8#32
  let v4710 : BitVec 32 := Scalar.addi v3 c8_i32_1537
  v4710
def k0_mult251 (i : grid0.Coords) : BitVec 32 :=
  let arg0 : BitVec 32 := BitVec.ofNat 32 (i 0).val
  let c24_i32 : BitVec 32 := 24#32
  let v3 : BitVec 32 := Scalar.muli arg0 c24_i32
  let c8_i32_1543 : BitVec 32 := 8#32
  let v4728 : BitVec 32 := Scalar.addi v3 c8_i32_1543
  v4728
def k0_mult252 (i : grid0.Coords) : BitVec 32 :=
  let arg0 : BitVec 32 := BitVec.ofNat 32 (i 0).val
  let c24_i32 : BitVec 32 := 24#32
  let v3 : BitVec 32 := Scalar.muli arg0 c24_i32
  let c8_i32_1549 : BitVec 32 := 8#32
  let v4746 : BitVec 32 := Scalar.addi v3 c8_i32_1549
  v4746
def k0_mult253 (i : grid0.Coords) : BitVec 32 :=
  let arg0 : BitVec 32 := BitVec.ofNat 32 (i 0).val
  let c24_i32 : BitVec 32 := 24#32
  let v3 : BitVec 32 := Scalar.muli arg0 c24_i32
  let c8_i32_1555 : BitVec 32 := 8#32
  let v4764 : BitVec 32 := Scalar.addi v3 c8_i32_1555
  v4764
def k0_mult254 (i : grid0.Coords) : BitVec 32 :=
  let arg0 : BitVec 32 := BitVec.ofNat 32 (i 0).val
  let c24_i32 : BitVec 32 := 24#32
  let v3 : BitVec 32 := Scalar.muli arg0 c24_i32
  let c8_i32_1561 : BitVec 32 := 8#32
  let v4782 : BitVec 32 := Scalar.addi v3 c8_i32_1561
  v4782
def k0_mult255 (i : grid0.Coords) : BitVec 32 :=
  let arg0 : BitVec 32 := BitVec.ofNat 32 (i 0).val
  let c24_i32 : BitVec 32 := 24#32
  let v3 : BitVec 32 := Scalar.muli arg0 c24_i32
  let c8_i32_1567 : BitVec 32 := 8#32
  let v4800 : BitVec 32 := Scalar.addi v3 c8_i32_1567
  v4800
def k0_mult256 (i : grid0.Coords) : BitVec 32 :=
  let arg0 : BitVec 32 := BitVec.ofNat 32 (i 0).val
  let c24_i32 : BitVec 32 := 24#32
  let v3 : BitVec 32 := Scalar.muli arg0 c24_i32
  let c8_i32_1573 : BitVec 32 := 8#32
  let v4818 : BitVec 32 := Scalar.addi v3 c8_i32_1573
  v4818
def k0_mult257 (i : grid0.Coords) : BitVec 32 :=
  let arg0 : BitVec 32 := BitVec.ofNat 32 (i 0).val
  let c24_i32 : BitVec 32 := 24#32
  let v3 : BitVec 32 := Scalar.muli arg0 c24_i32
  let c8_i32_1579 : BitVec 32 := 8#32
  let v4836 : BitVec 32 := Scalar.addi v3 c8_i32_1579
  v4836
def k0_mult258 (i : grid0.Coords) : BitVec 32 :=
  let arg0 : BitVec 32 := BitVec.ofNat 32 (i 0).val
  let c24_i32 : BitVec 32 := 24#32
  let v3 : BitVec 32 := Scalar.muli arg0 c24_i32
  let c16_i32_1585 : BitVec 32 := 16#32
  let v4854 : BitVec 32 := Scalar.addi v3 c16_i32_1585
  v4854
def k0_mult259 (i : grid0.Coords) : BitVec 32 :=
  let arg0 : BitVec 32 := BitVec.ofNat 32 (i 0).val
  let c24_i32 : BitVec 32 := 24#32
  let v3 : BitVec 32 := Scalar.muli arg0 c24_i32
  let c16_i32_1591 : BitVec 32 := 16#32
  let v4872 : BitVec 32 := Scalar.addi v3 c16_i32_1591
  v4872
def k0_mult260 (i : grid0.Coords) : BitVec 32 :=
  let arg0 : BitVec 32 := BitVec.ofNat 32 (i 0).val
  let c24_i32 : BitVec 32 := 24#32
  let v3 : BitVec 32 := Scalar.muli arg0 c24_i32
  let c16_i32_1597 : BitVec 32 := 16#32
  let v4890 : BitVec 32 := Scalar.addi v3 c16_i32_1597
  v4890
def k0_mult261 (i : grid0.Coords) : BitVec 32 :=
  let arg0 : BitVec 32 := BitVec.ofNat 32 (i 0).val
  let c24_i32 : BitVec 32 := 24#32
  let v3 : BitVec 32 := Scalar.muli arg0 c24_i32
  let c16_i32_1603 : BitVec 32 := 16#32
  let v4908 : BitVec 32 := Scalar.addi v3 c16_i32_1603
  v4908
def k0_mult262 (i : grid0.Coords) : BitVec 32 :=
  let arg0 : BitVec 32 := BitVec.ofNat 32 (i 0).val
  let c24_i32 : BitVec 32 := 24#32
  let v3 : BitVec 32 := Scalar.muli arg0 c24_i32
  let c16_i32_1609 : BitVec 32 := 16#32
  let v4926 : BitVec 32 := Scalar.addi v3 c16_i32_1609
  v4926
def k0_mult263 (i : grid0.Coords) : BitVec 32 :=
  let arg0 : BitVec 32 := BitVec.ofNat 32 (i 0).val
  let c24_i32 : BitVec 32 := 24#32
  let v3 : BitVec 32 := Scalar.muli arg0 c24_i32
  let c16_i32_1615 : BitVec 32 := 16#32
  let v4944 : BitVec 32 := Scalar.addi v3 c16_i32_1615
  v4944
def k0_mult264 (i : grid0.Coords) : BitVec 32 :=
  let arg0 : BitVec 32 := BitVec.ofNat 32 (i 0).val
  let c24_i32 : BitVec 32 := 24#32
  let v3 : BitVec 32 := Scalar.muli arg0 c24_i32
  let c16_i32_1621 : BitVec 32 := 16#32
  let v4962 : BitVec 32 := Scalar.addi v3 c16_i32_1621
  v4962
def k0_mult265 (i : grid0.Coords) : BitVec 32 :=
  let arg0 : BitVec 32 := BitVec.ofNat 32 (i 0).val
  let c24_i32 : BitVec 32 := 24#32
  let v3 : BitVec 32 := Scalar.muli arg0 c24_i32
  let c16_i32_1627 : BitVec 32 := 16#32
  let v4980 : BitVec 32 := Scalar.addi v3 c16_i32_1627
  v4980
def k0_mult266 (i : grid0.Coords) : BitVec 32 :=
  let arg0 : BitVec 32 := BitVec.ofNat 32 (i 0).val
  let c24_i32 : BitVec 32 := 24#32
  let v3 : BitVec 32 := Scalar.muli arg0 c24_i32
  let c0_i32_1643 : BitVec 32 := 0#32
  let v5022 : BitVec 32 := Scalar.addi v3 c0_i32_1643
  v5022
def k0_off50 (i : grid0.Coords) (c0_i32_1643 : BitVec 32) : Fin 2 → Nat :=
  let arg0 : BitVec 32 := BitVec.ofNat 32 (i 0).val
  let c24_i32 : BitVec 32 := 24#32
  let v3 : BitVec 32 := Scalar.muli arg0 c24_i32
  let v5022 : BitVec 32 := Scalar.addi v3 c0_i32_1643
  let v5023 : BitVec 32 := v5022
  let v5024 : Index := Scalar.indexCast v5023
  let c1408_1644 : Index := 1408#32
  ![v5024.toNat, 1408]
def k0_mult267 (i : grid0.Coords) : BitVec 32 :=
  let arg0 : BitVec 32 := BitVec.ofNat 32 (i 0).val
  let c24_i32 : BitVec 32 := 24#32
  let v3 : BitVec 32 := Scalar.muli arg0 c24_i32
  let c0_i32_1647 : BitVec 32 := 0#32
  let v5040 : BitVec 32 := Scalar.addi v3 c0_i32_1647
  v5040
def k0_mult268 (i : grid0.Coords) : BitVec 32 :=
  let arg0 : BitVec 32 := BitVec.ofNat 32 (i 0).val
  let c24_i32 : BitVec 32 := 24#32
  let v3 : BitVec 32 := Scalar.muli arg0 c24_i32
  let c0_i32_1653 : BitVec 32 := 0#32
  let v5058 : BitVec 32 := Scalar.addi v3 c0_i32_1653
  v5058
def k0_mult269 (i : grid0.Coords) : BitVec 32 :=
  let arg0 : BitVec 32 := BitVec.ofNat 32 (i 0).val
  let c24_i32 : BitVec 32 := 24#32
  let v3 : BitVec 32 := Scalar.muli arg0 c24_i32
  let c0_i32_1659 : BitVec 32 := 0#32
  let v5076 : BitVec 32 := Scalar.addi v3 c0_i32_1659
  v5076
def k0_mult270 (i : grid0.Coords) : BitVec 32 :=
  let arg0 : BitVec 32 := BitVec.ofNat 32 (i 0).val
  let c24_i32 : BitVec 32 := 24#32
  let v3 : BitVec 32 := Scalar.muli arg0 c24_i32
  let c0_i32_1665 : BitVec 32 := 0#32
  let v5094 : BitVec 32 := Scalar.addi v3 c0_i32_1665
  v5094
def k0_mult271 (i : grid0.Coords) : BitVec 32 :=
  let arg0 : BitVec 32 := BitVec.ofNat 32 (i 0).val
  let c24_i32 : BitVec 32 := 24#32
  let v3 : BitVec 32 := Scalar.muli arg0 c24_i32
  let c0_i32_1671 : BitVec 32 := 0#32
  let v5112 : BitVec 32 := Scalar.addi v3 c0_i32_1671
  v5112
def k0_mult272 (i : grid0.Coords) : BitVec 32 :=
  let arg0 : BitVec 32 := BitVec.ofNat 32 (i 0).val
  let c24_i32 : BitVec 32 := 24#32
  let v3 : BitVec 32 := Scalar.muli arg0 c24_i32
  let c0_i32_1677 : BitVec 32 := 0#32
  let v5130 : BitVec 32 := Scalar.addi v3 c0_i32_1677
  v5130
def k0_mult273 (i : grid0.Coords) : BitVec 32 :=
  let arg0 : BitVec 32 := BitVec.ofNat 32 (i 0).val
  let c24_i32 : BitVec 32 := 24#32
  let v3 : BitVec 32 := Scalar.muli arg0 c24_i32
  let c0_i32_1683 : BitVec 32 := 0#32
  let v5148 : BitVec 32 := Scalar.addi v3 c0_i32_1683
  v5148
def k0_mult274 (i : grid0.Coords) : BitVec 32 :=
  let arg0 : BitVec 32 := BitVec.ofNat 32 (i 0).val
  let c24_i32 : BitVec 32 := 24#32
  let v3 : BitVec 32 := Scalar.muli arg0 c24_i32
  let c8_i32_1689 : BitVec 32 := 8#32
  let v5166 : BitVec 32 := Scalar.addi v3 c8_i32_1689
  v5166
def k0_mult275 (i : grid0.Coords) : BitVec 32 :=
  let arg0 : BitVec 32 := BitVec.ofNat 32 (i 0).val
  let c24_i32 : BitVec 32 := 24#32
  let v3 : BitVec 32 := Scalar.muli arg0 c24_i32
  let c8_i32_1695 : BitVec 32 := 8#32
  let v5184 : BitVec 32 := Scalar.addi v3 c8_i32_1695
  v5184
def k0_mult276 (i : grid0.Coords) : BitVec 32 :=
  let arg0 : BitVec 32 := BitVec.ofNat 32 (i 0).val
  let c24_i32 : BitVec 32 := 24#32
  let v3 : BitVec 32 := Scalar.muli arg0 c24_i32
  let c8_i32_1701 : BitVec 32 := 8#32
  let v5202 : BitVec 32 := Scalar.addi v3 c8_i32_1701
  v5202
def k0_mult277 (i : grid0.Coords) : BitVec 32 :=
  let arg0 : BitVec 32 := BitVec.ofNat 32 (i 0).val
  let c24_i32 : BitVec 32 := 24#32
  let v3 : BitVec 32 := Scalar.muli arg0 c24_i32
  let c8_i32_1707 : BitVec 32 := 8#32
  let v5220 : BitVec 32 := Scalar.addi v3 c8_i32_1707
  v5220
def k0_mult278 (i : grid0.Coords) : BitVec 32 :=
  let arg0 : BitVec 32 := BitVec.ofNat 32 (i 0).val
  let c24_i32 : BitVec 32 := 24#32
  let v3 : BitVec 32 := Scalar.muli arg0 c24_i32
  let c8_i32_1713 : BitVec 32 := 8#32
  let v5238 : BitVec 32 := Scalar.addi v3 c8_i32_1713
  v5238
def k0_mult279 (i : grid0.Coords) : BitVec 32 :=
  let arg0 : BitVec 32 := BitVec.ofNat 32 (i 0).val
  let c24_i32 : BitVec 32 := 24#32
  let v3 : BitVec 32 := Scalar.muli arg0 c24_i32
  let c8_i32_1719 : BitVec 32 := 8#32
  let v5256 : BitVec 32 := Scalar.addi v3 c8_i32_1719
  v5256
def k0_mult280 (i : grid0.Coords) : BitVec 32 :=
  let arg0 : BitVec 32 := BitVec.ofNat 32 (i 0).val
  let c24_i32 : BitVec 32 := 24#32
  let v3 : BitVec 32 := Scalar.muli arg0 c24_i32
  let c8_i32_1725 : BitVec 32 := 8#32
  let v5274 : BitVec 32 := Scalar.addi v3 c8_i32_1725
  v5274
def k0_mult281 (i : grid0.Coords) : BitVec 32 :=
  let arg0 : BitVec 32 := BitVec.ofNat 32 (i 0).val
  let c24_i32 : BitVec 32 := 24#32
  let v3 : BitVec 32 := Scalar.muli arg0 c24_i32
  let c8_i32_1731 : BitVec 32 := 8#32
  let v5292 : BitVec 32 := Scalar.addi v3 c8_i32_1731
  v5292
def k0_mult282 (i : grid0.Coords) : BitVec 32 :=
  let arg0 : BitVec 32 := BitVec.ofNat 32 (i 0).val
  let c24_i32 : BitVec 32 := 24#32
  let v3 : BitVec 32 := Scalar.muli arg0 c24_i32
  let c16_i32_1737 : BitVec 32 := 16#32
  let v5310 : BitVec 32 := Scalar.addi v3 c16_i32_1737
  v5310
def k0_mult283 (i : grid0.Coords) : BitVec 32 :=
  let arg0 : BitVec 32 := BitVec.ofNat 32 (i 0).val
  let c24_i32 : BitVec 32 := 24#32
  let v3 : BitVec 32 := Scalar.muli arg0 c24_i32
  let c16_i32_1743 : BitVec 32 := 16#32
  let v5328 : BitVec 32 := Scalar.addi v3 c16_i32_1743
  v5328
def k0_mult284 (i : grid0.Coords) : BitVec 32 :=
  let arg0 : BitVec 32 := BitVec.ofNat 32 (i 0).val
  let c24_i32 : BitVec 32 := 24#32
  let v3 : BitVec 32 := Scalar.muli arg0 c24_i32
  let c16_i32_1749 : BitVec 32 := 16#32
  let v5346 : BitVec 32 := Scalar.addi v3 c16_i32_1749
  v5346
def k0_mult285 (i : grid0.Coords) : BitVec 32 :=
  let arg0 : BitVec 32 := BitVec.ofNat 32 (i 0).val
  let c24_i32 : BitVec 32 := 24#32
  let v3 : BitVec 32 := Scalar.muli arg0 c24_i32
  let c16_i32_1755 : BitVec 32 := 16#32
  let v5364 : BitVec 32 := Scalar.addi v3 c16_i32_1755
  v5364
def k0_mult286 (i : grid0.Coords) : BitVec 32 :=
  let arg0 : BitVec 32 := BitVec.ofNat 32 (i 0).val
  let c24_i32 : BitVec 32 := 24#32
  let v3 : BitVec 32 := Scalar.muli arg0 c24_i32
  let c16_i32_1761 : BitVec 32 := 16#32
  let v5382 : BitVec 32 := Scalar.addi v3 c16_i32_1761
  v5382
def k0_mult287 (i : grid0.Coords) : BitVec 32 :=
  let arg0 : BitVec 32 := BitVec.ofNat 32 (i 0).val
  let c24_i32 : BitVec 32 := 24#32
  let v3 : BitVec 32 := Scalar.muli arg0 c24_i32
  let c16_i32_1767 : BitVec 32 := 16#32
  let v5400 : BitVec 32 := Scalar.addi v3 c16_i32_1767
  v5400
def k0_mult288 (i : grid0.Coords) : BitVec 32 :=
  let arg0 : BitVec 32 := BitVec.ofNat 32 (i 0).val
  let c24_i32 : BitVec 32 := 24#32
  let v3 : BitVec 32 := Scalar.muli arg0 c24_i32
  let c16_i32_1773 : BitVec 32 := 16#32
  let v5418 : BitVec 32 := Scalar.addi v3 c16_i32_1773
  v5418
def k0_mult289 (i : grid0.Coords) : BitVec 32 :=
  let arg0 : BitVec 32 := BitVec.ofNat 32 (i 0).val
  let c24_i32 : BitVec 32 := 24#32
  let v3 : BitVec 32 := Scalar.muli arg0 c24_i32
  let c16_i32_1779 : BitVec 32 := 16#32
  let v5436 : BitVec 32 := Scalar.addi v3 c16_i32_1779
  v5436
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1440 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x180 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1440 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S360x180 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1536x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x256x1440 : Shape := ⟨3, ![6, 256, 1440]⟩
abbrev S6x256x180 : Shape := ⟨3, ![6, 256, 180]⟩
abbrev S2 : Shape := ⟨1, ![2]⟩
abbrev S5760x1440 : Shape := ⟨2, ![5760, 1440]⟩
abbrev S360x180 : Shape := ⟨2, ![360, 180]⟩
abbrev S1 : Shape := ⟨1, ![1]⟩
abbrev S_ : Shape := ⟨0, ![]⟩
abbrev S6x256x180x8 : Shape := ⟨4, ![6, 256, 180, 8]⟩
abbrev S6x256x180x1 : Shape := ⟨4, ![6, 256, 180, 1]⟩
abbrev S360x16x180x8 : Shape := ⟨4, ![360, 16, 180, 8]⟩
abbrev S360x1x180x1 : Shape := ⟨4, ![360, 1, 180, 1]⟩
abbrev S6x256x5760 : Shape := ⟨3, ![6, 256, 5760]⟩
abbrev S2x128 : Shape := ⟨2, ![2, 128]⟩
abbrev S256 : Shape := ⟨1, ![256]⟩
abbrev S1x256x1 : Shape := ⟨3, ![1, 256, 1]⟩

abbrev nBuf : Space → Nat
  | .hbm => 250
  | .vmem => 4
  | .smem => 0
  | _ => 0

abbrev hbmTy0_0 (i : Nat) : BufTy := match i % 128 with
  | 0 => ⟨S6x256x1440, .i8⟩
  | 1 => ⟨S6x256x180, .fp8e4m3⟩
  | 2 => ⟨S2, .f32⟩
  | 3 => ⟨S5760x1440, .i8⟩
  | 4 => ⟨S360x180, .fp8e4m3⟩
  | 5 => ⟨S1, .f32⟩
  | 6 => ⟨S6x256x180, .bf16⟩
  | 7 => ⟨S360x180, .bf16⟩
  | 8 => ⟨S6x256x1440, .i32⟩
  | 9 => ⟨S5760x1440, .i32⟩
  | 10 => ⟨S_, .i32⟩
  | 11 => ⟨S6x256x1440, .i32⟩
  | 12 => ⟨S6x256x1440, .i32⟩
  | 13 => ⟨S_, .i32⟩
  | 14 => ⟨S6x256x1440, .i32⟩
  | 15 => ⟨S6x256x1440, .i32⟩
  | 16 => ⟨S_, .i32⟩
  | 17 => ⟨S6x256x1440, .i32⟩
  | 18 => ⟨S6x256x1440, .i1⟩
  | 19 => ⟨S_, .i32⟩
  | 20 => ⟨S6x256x1440, .i32⟩
  | 21 => ⟨S6x256x1440, .i32⟩
  | 22 => ⟨S_, .i32⟩
  | 23 => ⟨S6x256x1440, .i32⟩
  | 24 => ⟨S6x256x1440, .i1⟩
  | 25 => ⟨S_, .i32⟩
  | 26 => ⟨S6x256x1440, .i32⟩
  | 27 => ⟨S6x256x1440, .i32⟩
  | 28 => ⟨S_, .i32⟩
  | 29 => ⟨S6x256x1440, .i32⟩
  | 30 => ⟨S6x256x1440, .i1⟩
  | 31 => ⟨S_, .i32⟩
  | 32 => ⟨S6x256x1440, .i32⟩
  | 33 => ⟨S6x256x1440, .i32⟩
  | 34 => ⟨S_, .i32⟩
  | 35 => ⟨S6x256x1440, .i32⟩
  | 36 => ⟨S6x256x1440, .i1⟩
  | 37 => ⟨S_, .bf16⟩
  | 38 => ⟨S6x256x1440, .bf16⟩
  | 39 => ⟨S_, .bf16⟩
  | 40 => ⟨S6x256x1440, .bf16⟩
  | 41 => ⟨S6x256x1440, .bf16⟩
  | 42 => ⟨S_, .bf16⟩
  | 43 => ⟨S6x256x1440, .bf16⟩
  | 44 => ⟨S_, .bf16⟩
  | 45 => ⟨S6x256x1440, .bf16⟩
  | 46 => ⟨S6x256x1440, .bf16⟩
  | 47 => ⟨S6x256x1440, .bf16⟩
  | 48 => ⟨S_, .bf16⟩
  | 49 => ⟨S6x256x1440, .bf16⟩
  | 50 => ⟨S_, .bf16⟩
  | 51 => ⟨S6x256x1440, .bf16⟩
  | 52 => ⟨S6x256x1440, .bf16⟩
  | 53 => ⟨S_, .bf16⟩
  | 54 => ⟨S6x256x1440, .bf16⟩
  | 55 => ⟨S_, .bf16⟩
  | 56 => ⟨S6x256x1440, .bf16⟩
  | 57 => ⟨S6x256x1440, .bf16⟩
  | 58 => ⟨S6x256x1440, .bf16⟩
  | 59 => ⟨S6x256x1440, .bf16⟩
  | 60 => ⟨S6x256x1440, .bf16⟩
  | 61 => ⟨S6x256x1440, .bf16⟩
  | 62 => ⟨S6x256x180x8, .bf16⟩
  | 63 => ⟨S6x256x180x1, .bf16⟩
  | 64 => ⟨S6x256x180x8, .bf16⟩
  | 65 => ⟨S6x256x180x8, .bf16⟩
  | 66 => ⟨S6x256x1440, .bf16⟩
  | 67 => ⟨S_, .i32⟩
  | 68 => ⟨S6x256x1440, .i32⟩
  | 69 => ⟨S6x256x1440, .i32⟩
  | 70 => ⟨S_, .i32⟩
  | 71 => ⟨S6x256x1440, .i32⟩
  | 72 => ⟨S6x256x1440, .i32⟩
  | 73 => ⟨S_, .i32⟩
  | 74 => ⟨S6x256x1440, .i32⟩
  | 75 => ⟨S6x256x1440, .i1⟩
  | 76 => ⟨S_, .i32⟩
  | 77 => ⟨S6x256x1440, .i32⟩
  | 78 => ⟨S6x256x1440, .i32⟩
  | 79 => ⟨S_, .i32⟩
  | 80 => ⟨S6x256x1440, .i32⟩
  | 81 => ⟨S6x256x1440, .i1⟩
  | 82 => ⟨S_, .i32⟩
  | 83 => ⟨S6x256x1440, .i32⟩
  | 84 => ⟨S6x256x1440, .i32⟩
  | 85 => ⟨S_, .i32⟩
  | 86 => ⟨S6x256x1440, .i32⟩
  | 87 => ⟨S6x256x1440, .i1⟩
  | 88 => ⟨S_, .i32⟩
  | 89 => ⟨S6x256x1440, .i32⟩
  | 90 => ⟨S6x256x1440, .i32⟩
  | 91 => ⟨S_, .i32⟩
  | 92 => ⟨S6x256x1440, .i32⟩
  | 93 => ⟨S6x256x1440, .i1⟩
  | 94 => ⟨S_, .bf16⟩
  | 95 => ⟨S6x256x1440, .bf16⟩
  | 96 => ⟨S_, .bf16⟩
  | 97 => ⟨S6x256x1440, .bf16⟩
  | 98 => ⟨S6x256x1440, .bf16⟩
  | 99 => ⟨S_, .bf16⟩
  | 100 => ⟨S6x256x1440, .bf16⟩
  | 101 => ⟨S_, .bf16⟩
  | 102 => ⟨S6x256x1440, .bf16⟩
  | 103 => ⟨S6x256x1440, .bf16⟩
  | 104 => ⟨S6x256x1440, .bf16⟩
  | 105 => ⟨S_, .bf16⟩
  | 106 => ⟨S6x256x1440, .bf16⟩
  | 107 => ⟨S_, .bf16⟩
  | 108 => ⟨S6x256x1440, .bf16⟩
  | 109 => ⟨S6x256x1440, .bf16⟩
  | 110 => ⟨S_, .bf16⟩
  | 111 => ⟨S6x256x1440, .bf16⟩
  | 112 => ⟨S_, .bf16⟩
  | 113 => ⟨S6x256x1440, .bf16⟩
  | 114 => ⟨S6x256x1440, .bf16⟩
  | 115 => ⟨S6x256x1440, .bf16⟩
  | 116 => ⟨S6x256x1440, .bf16⟩
  | 117 => ⟨S6x256x1440, .bf16⟩
  | 118 => ⟨S6x256x1440, .bf16⟩
  | 119 => ⟨S6x256x180x8, .bf16⟩
  | 120 => ⟨S6x256x180x1, .bf16⟩
  | 121 => ⟨S6x256x180x8, .bf16⟩
  | 122 => ⟨S6x256x180x8, .bf16⟩
  | 123 => ⟨S6x256x1440, .bf16⟩
  | 124 => ⟨S_, .i32⟩
  | 125 => ⟨S5760x1440, .i32⟩
  | 126 => ⟨S5760x1440, .i32⟩
  | 127 => ⟨S_, .i32⟩
  | _ => ⟨S6x256x1440, .i8⟩

abbrev hbmTy0_1 (i : Nat) : BufTy := match i % 128 with
  | 0 => ⟨S5760x1440, .i32⟩
  | 1 => ⟨S5760x1440, .i32⟩
  | 2 => ⟨S_, .i32⟩
  | 3 => ⟨S5760x1440, .i32⟩
  | 4 => ⟨S5760x1440, .i1⟩
  | 5 => ⟨S_, .i32⟩
  | 6 => ⟨S5760x1440, .i32⟩
  | 7 => ⟨S5760x1440, .i32⟩
  | 8 => ⟨S_, .i32⟩
  | 9 => ⟨S5760x1440, .i32⟩
  | 10 => ⟨S5760x1440, .i1⟩
  | 11 => ⟨S_, .i32⟩
  | 12 => ⟨S5760x1440, .i32⟩
  | 13 => ⟨S5760x1440, .i32⟩
  | 14 => ⟨S_, .i32⟩
  | 15 => ⟨S5760x1440, .i32⟩
  | 16 => ⟨S5760x1440, .i1⟩
  | 17 => ⟨S_, .i32⟩
  | 18 => ⟨S5760x1440, .i32⟩
  | 19 => ⟨S5760x1440, .i32⟩
  | 20 => ⟨S_, .i32⟩
  | 21 => ⟨S5760x1440, .i32⟩
  | 22 => ⟨S5760x1440, .i1⟩
  | 23 => ⟨S_, .bf16⟩
  | 24 => ⟨S5760x1440, .bf16⟩
  | 25 => ⟨S_, .bf16⟩
  | 26 => ⟨S5760x1440, .bf16⟩
  | 27 => ⟨S5760x1440, .bf16⟩
  | 28 => ⟨S_, .bf16⟩
  | 29 => ⟨S5760x1440, .bf16⟩
  | 30 => ⟨S_, .bf16⟩
  | 31 => ⟨S5760x1440, .bf16⟩
  | 32 => ⟨S5760x1440, .bf16⟩
  | 33 => ⟨S5760x1440, .bf16⟩
  | 34 => ⟨S_, .bf16⟩
  | 35 => ⟨S5760x1440, .bf16⟩
  | 36 => ⟨S_, .bf16⟩
  | 37 => ⟨S5760x1440, .bf16⟩
  | 38 => ⟨S5760x1440, .bf16⟩
  | 39 => ⟨S_, .bf16⟩
  | 40 => ⟨S5760x1440, .bf16⟩
  | 41 => ⟨S_, .bf16⟩
  | 42 => ⟨S5760x1440, .bf16⟩
  | 43 => ⟨S5760x1440, .bf16⟩
  | 44 => ⟨S5760x1440, .bf16⟩
  | 45 => ⟨S5760x1440, .bf16⟩
  | 46 => ⟨S5760x1440, .bf16⟩
  | 47 => ⟨S5760x1440, .bf16⟩
  | 48 => ⟨S360x16x180x8, .bf16⟩
  | 49 => ⟨S360x1x180x1, .bf16⟩
  | 50 => ⟨S360x16x180x8, .bf16⟩
  | 51 => ⟨S360x16x180x8, .bf16⟩
  | 52 => ⟨S5760x1440, .bf16⟩
  | 53 => ⟨S_, .i32⟩
  | 54 => ⟨S5760x1440, .i32⟩
  | 55 => ⟨S5760x1440, .i32⟩
  | 56 => ⟨S_, .i32⟩
  | 57 => ⟨S5760x1440, .i32⟩
  | 58 => ⟨S5760x1440, .i32⟩
  | 59 => ⟨S_, .i32⟩
  | 60 => ⟨S5760x1440, .i32⟩
  | 61 => ⟨S5760x1440, .i1⟩
  | 62 => ⟨S_, .i32⟩
  | 63 => ⟨S5760x1440, .i32⟩
  | 64 => ⟨S5760x1440, .i32⟩
  | 65 => ⟨S_, .i32⟩
  | 66 => ⟨S5760x1440, .i32⟩
  | 67 => ⟨S5760x1440, .i1⟩
  | 68 => ⟨S_, .i32⟩
  | 69 => ⟨S5760x1440, .i32⟩
  | 70 => ⟨S5760x1440, .i32⟩
  | 71 => ⟨S_, .i32⟩
  | 72 => ⟨S5760x1440, .i32⟩
  | 73 => ⟨S5760x1440, .i1⟩
  | 74 => ⟨S_, .i32⟩
  | 75 => ⟨S5760x1440, .i32⟩
  | 76 => ⟨S5760x1440, .i32⟩
  | 77 => ⟨S_, .i32⟩
  | 78 => ⟨S5760x1440, .i32⟩
  | 79 => ⟨S5760x1440, .i1⟩
  | 80 => ⟨S_, .bf16⟩
  | 81 => ⟨S5760x1440, .bf16⟩
  | 82 => ⟨S_, .bf16⟩
  | 83 => ⟨S5760x1440, .bf16⟩
  | 84 => ⟨S5760x1440, .bf16⟩
  | 85 => ⟨S_, .bf16⟩
  | 86 => ⟨S5760x1440, .bf16⟩
  | 87 => ⟨S_, .bf16⟩
  | 88 => ⟨S5760x1440, .bf16⟩
  | 89 => ⟨S5760x1440, .bf16⟩
  | 90 => ⟨S5760x1440, .bf16⟩
  | 91 => ⟨S_, .bf16⟩
  | 92 => ⟨S5760x1440, .bf16⟩
  | 93 => ⟨S_, .bf16⟩
  | 94 => ⟨S5760x1440, .bf16⟩
  | 95 => ⟨S5760x1440, .bf16⟩
  | 96 => ⟨S_, .bf16⟩
  | 97 => ⟨S5760x1440, .bf16⟩
  | 98 => ⟨S_, .bf16⟩
  | 99 => ⟨S5760x1440, .bf16⟩
  | 100 => ⟨S5760x1440, .bf16⟩
  | 101 => ⟨S5760x1440, .bf16⟩
  | 102 => ⟨S5760x1440, .bf16⟩
  | 103 => ⟨S5760x1440, .bf16⟩
  | 104 => ⟨S5760x1440, .bf16⟩
  | 105 => ⟨S360x16x180x8, .bf16⟩
  | 106 => ⟨S360x1x180x1, .bf16⟩
  | 107 => ⟨S360x16x180x8, .bf16⟩
  | 108 => ⟨S360x16x180x8, .bf16⟩
  | 109 => ⟨S5760x1440, .bf16⟩
  | 110 => ⟨S6x256x5760, .f32⟩
  | 111 => ⟨S6x256x5760, .f32⟩
  | 112 => ⟨S6x256x5760, .f32⟩
  | 113 => ⟨S2x128, .f32⟩
  | 114 => ⟨S256, .f32⟩
  | 115 => ⟨S1x256x1, .f32⟩
  | 116 => ⟨S6x256x5760, .f32⟩
  | 117 => ⟨S6x256x5760, .f32⟩
  | 118 => ⟨S_, .f32⟩
  | 119 => ⟨S6x256x5760, .f32⟩
  | 120 => ⟨S6x256x5760, .f32⟩
  | 121 => ⟨S6x256x5760, .bf16⟩
  | _ => ⟨S6x256x1440, .i8⟩

abbrev hbmTy (i : Nat) : BufTy := match i / 128 with
  | 0 => hbmTy0_0 i
  | 1 => hbmTy0_1 i
  | _ => ⟨S6x256x1440, .i8⟩

abbrev bufTy : (tb : Table) → Fin (tcTables nBuf tb) → BufTy
  | .hbm, ⟨i, _⟩ => hbmTy i
  | .local _ .vmem, ⟨0, _⟩ => ⟨S6x256x180, .fp8e4m3⟩
  | .local _ .vmem, ⟨1, _⟩ => ⟨S360x180, .fp8e4m3⟩
  | .local _ .vmem, ⟨2, _⟩ => ⟨S6x256x180, .bf16⟩
  | .local _ .vmem, ⟨3, _⟩ => ⟨S360x180, .bf16⟩
  | _, _ => ⟨S6x256x1440, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_v18 : Ref sig .tc := ⟨.hbm, 33, rfl⟩
abbrev main_c_7 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_cst_10 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_11 : Ref sig .tc := ⟨.hbm, 48, rfl⟩
abbrev main_v28 : Ref sig .tc := ⟨.hbm, 49, rfl⟩
abbrev main_cst_12 : Ref sig .tc := ⟨.hbm, 50, rfl⟩
abbrev main_v29 : Ref sig .tc := ⟨.hbm, 51, rfl⟩
abbrev main_v30 : Ref sig .tc := ⟨.hbm, 52, rfl⟩
abbrev main_cst_13 : Ref sig .tc := ⟨.hbm, 53, rfl⟩
abbrev main_v31 : Ref sig .tc := ⟨.hbm, 54, rfl⟩
abbrev main_cst_14 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_15 : Ref sig .tc := ⟨.hbm, 67, rfl⟩
abbrev main_v43 : Ref sig .tc := ⟨.hbm, 68, rfl⟩
abbrev main_v44 : Ref sig .tc := ⟨.hbm, 69, rfl⟩
abbrev main_c_16 : Ref sig .tc := ⟨.hbm, 70, rfl⟩
abbrev main_v45 : Ref sig .tc := ⟨.hbm, 71, rfl⟩
abbrev main_v46 : Ref sig .tc := ⟨.hbm, 72, rfl⟩
abbrev main_c_17 : Ref sig .tc := ⟨.hbm, 73, rfl⟩
abbrev main_v47 : Ref sig .tc := ⟨.hbm, 74, rfl⟩
abbrev main_v48 : Ref sig .tc := ⟨.hbm, 75, rfl⟩
abbrev main_c_18 : Ref sig .tc := ⟨.hbm, 76, rfl⟩
abbrev main_v49 : Ref sig .tc := ⟨.hbm, 77, rfl⟩
abbrev main_v50 : Ref sig .tc := ⟨.hbm, 78, rfl⟩
abbrev main_c_19 : Ref sig .tc := ⟨.hbm, 79, rfl⟩
abbrev main_v51 : Ref sig .tc := ⟨.hbm, 80, rfl⟩
abbrev main_v52 : Ref sig .tc := ⟨.hbm, 81, rfl⟩
abbrev main_c_20 : Ref sig .tc := ⟨.hbm, 82, rfl⟩
abbrev main_v53 : Ref sig .tc := ⟨.hbm, 83, rfl⟩
abbrev main_v54 : Ref sig .tc := ⟨.hbm, 84, rfl⟩
abbrev main_c_21 : Ref sig .tc := ⟨.hbm, 85, rfl⟩
abbrev main_v55 : Ref sig .tc := ⟨.hbm, 86, rfl⟩
abbrev main_v56 : Ref sig .tc := ⟨.hbm, 87, rfl⟩
abbrev main_c_22 : Ref sig .tc := ⟨.hbm, 88, rfl⟩
abbrev main_v57 : Ref sig .tc := ⟨.hbm, 89, rfl⟩
abbrev main_v58 : Ref sig .tc := ⟨.hbm, 90, rfl⟩
abbrev main_c_23 : Ref sig .tc := ⟨.hbm, 91, rfl⟩
abbrev main_v59 : Ref sig .tc := ⟨.hbm, 92, rfl⟩
abbrev main_v60 : Ref sig .tc := ⟨.hbm, 93, rfl⟩
abbrev main_cst_24 : Ref sig .tc := ⟨.hbm, 94, rfl⟩
abbrev main_v61 : Ref sig .tc := ⟨.hbm, 95, rfl⟩
abbrev main_cst_25 : Ref sig .tc := ⟨.hbm, 96, rfl⟩
abbrev main_v62 : Ref sig .tc := ⟨.hbm, 97, rfl⟩
abbrev main_v63 : Ref sig .tc := ⟨.hbm, 98, rfl⟩
abbrev main_cst_26 : Ref sig .tc := ⟨.hbm, 99, rfl⟩
abbrev main_v64 : Ref sig .tc := ⟨.hbm, 100, rfl⟩
abbrev main_cst_27 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_28 : Ref sig .tc := ⟨.hbm, 105, rfl⟩
abbrev main_v68 : Ref sig .tc := ⟨.hbm, 106, rfl⟩
abbrev main_cst_29 : Ref sig .tc := ⟨.hbm, 107, rfl⟩
abbrev main_v69 : Ref sig .tc := ⟨.hbm, 108, rfl⟩
abbrev main_v70 : Ref sig .tc := ⟨.hbm, 109, rfl⟩
abbrev main_cst_30 : Ref sig .tc := ⟨.hbm, 110, rfl⟩
abbrev main_v71 : Ref sig .tc := ⟨.hbm, 111, rfl⟩
abbrev main_cst_31 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_32 : Ref sig .tc := ⟨.hbm, 124, rfl⟩
abbrev main_v83 : Ref sig .tc := ⟨.hbm, 125, rfl⟩
abbrev main_v84 : Ref sig .tc := ⟨.hbm, 126, rfl⟩
abbrev main_c_33 : Ref sig .tc := ⟨.hbm, 127, rfl⟩
abbrev main_v85 : Ref sig .tc := ⟨.hbm, 128, rfl⟩
abbrev main_v86 : Ref sig .tc := ⟨.hbm, 129, rfl⟩
abbrev main_c_34 : Ref sig .tc := ⟨.hbm, 130, rfl⟩
abbrev main_v87 : Ref sig .tc := ⟨.hbm, 131, rfl⟩
abbrev main_v88 : Ref sig .tc := ⟨.hbm, 132, rfl⟩
abbrev main_c_35 : Ref sig .tc := ⟨.hbm, 133, rfl⟩
abbrev main_v89 : Ref sig .tc := ⟨.hbm, 134, rfl⟩
abbrev main_v90 : Ref sig .tc := ⟨.hbm, 135, rfl⟩
abbrev main_c_36 : Ref sig .tc := ⟨.hbm, 136, rfl⟩
abbrev main_v91 : Ref sig .tc := ⟨.hbm, 137, rfl⟩
abbrev main_v92 : Ref sig .tc := ⟨.hbm, 138, rfl⟩
abbrev main_c_37 : Ref sig .tc := ⟨.hbm, 139, rfl⟩
abbrev main_v93 : Ref sig .tc := ⟨.hbm, 140, rfl⟩
abbrev main_v94 : Ref sig .tc := ⟨.hbm, 141, rfl⟩
abbrev main_c_38 : Ref sig .tc := ⟨.hbm, 142, rfl⟩
abbrev main_v95 : Ref sig .tc := ⟨.hbm, 143, rfl⟩
abbrev main_v96 : Ref sig .tc := ⟨.hbm, 144, rfl⟩
abbrev main_c_39 : Ref sig .tc := ⟨.hbm, 145, rfl⟩
abbrev main_v97 : Ref sig .tc := ⟨.hbm, 146, rfl⟩
abbrev main_v98 : Ref sig .tc := ⟨.hbm, 147, rfl⟩
abbrev main_c_40 : Ref sig .tc := ⟨.hbm, 148, rfl⟩
abbrev main_v99 : Ref sig .tc := ⟨.hbm, 149, rfl⟩
abbrev main_v100 : Ref sig .tc := ⟨.hbm, 150, rfl⟩
abbrev main_cst_41 : Ref sig .tc := ⟨.hbm, 151, rfl⟩
abbrev main_v101 : Ref sig .tc := ⟨.hbm, 152, rfl⟩
abbrev main_cst_42 : Ref sig .tc := ⟨.hbm, 153, rfl⟩
abbrev main_v102 : Ref sig .tc := ⟨.hbm, 154, rfl⟩
abbrev main_v103 : Ref sig .tc := ⟨.hbm, 155, rfl⟩
abbrev main_cst_43 : Ref sig .tc := ⟨.hbm, 156, rfl⟩
abbrev main_v104 : Ref sig .tc := ⟨.hbm, 157, rfl⟩
abbrev main_cst_44 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_45 : Ref sig .tc := ⟨.hbm, 162, rfl⟩
abbrev main_v108 : Ref sig .tc := ⟨.hbm, 163, rfl⟩
abbrev main_cst_46 : Ref sig .tc := ⟨.hbm, 164, rfl⟩
abbrev main_v109 : Ref sig .tc := ⟨.hbm, 165, rfl⟩
abbrev main_v110 : Ref sig .tc := ⟨.hbm, 166, rfl⟩
abbrev main_cst_47 : Ref sig .tc := ⟨.hbm, 167, rfl⟩
abbrev main_v111 : Ref sig .tc := ⟨.hbm, 168, rfl⟩
abbrev main_cst_48 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_c_49 : Ref sig .tc := ⟨.hbm, 181, rfl⟩
abbrev main_v123 : Ref sig .tc := ⟨.hbm, 182, rfl⟩
abbrev main_v124 : Ref sig .tc := ⟨.hbm, 183, rfl⟩
abbrev main_c_50 : Ref sig .tc := ⟨.hbm, 184, rfl⟩
abbrev main_v125 : Ref sig .tc := ⟨.hbm, 185, rfl⟩
abbrev main_v126 : Ref sig .tc := ⟨.hbm, 186, rfl⟩
abbrev main_c_51 : Ref sig .tc := ⟨.hbm, 187, rfl⟩
abbrev main_v127 : Ref sig .tc := ⟨.hbm, 188, rfl⟩
abbrev main_v128 : Ref sig .tc := ⟨.hbm, 189, rfl⟩
abbrev main_c_52 : Ref sig .tc := ⟨.hbm, 190, rfl⟩
abbrev main_v129 : Ref sig .tc := ⟨.hbm, 191, rfl⟩
abbrev main_v130 : Ref sig .tc := ⟨.hbm, 192, rfl⟩
abbrev main_c_53 : Ref sig .tc := ⟨.hbm, 193, rfl⟩
abbrev main_v131 : Ref sig .tc := ⟨.hbm, 194, rfl⟩
abbrev main_v132 : Ref sig .tc := ⟨.hbm, 195, rfl⟩
abbrev main_c_54 : Ref sig .tc := ⟨.hbm, 196, rfl⟩
abbrev main_v133 : Ref sig .tc := ⟨.hbm, 197, rfl⟩
abbrev main_v134 : Ref sig .tc := ⟨.hbm, 198, rfl⟩
abbrev main_c_55 : Ref sig .tc := ⟨.hbm, 199, rfl⟩
abbrev main_v135 : Ref sig .tc := ⟨.hbm, 200, rfl⟩
abbrev main_v136 : Ref sig .tc := ⟨.hbm, 201, rfl⟩
abbrev main_c_56 : Ref sig .tc := ⟨.hbm, 202, rfl⟩
abbrev main_v137 : Ref sig .tc := ⟨.hbm, 203, rfl⟩
abbrev main_v138 : Ref sig .tc := ⟨.hbm, 204, rfl⟩
abbrev main_c_57 : Ref sig .tc := ⟨.hbm, 205, rfl⟩
abbrev main_v139 : Ref sig .tc := ⟨.hbm, 206, rfl⟩
abbrev main_v140 : Ref sig .tc := ⟨.hbm, 207, rfl⟩
abbrev main_cst_58 : Ref sig .tc := ⟨.hbm, 208, rfl⟩
abbrev main_v141 : Ref sig .tc := ⟨.hbm, 209, rfl⟩
abbrev main_cst_59 : Ref sig .tc := ⟨.hbm, 210, rfl⟩
abbrev main_v142 : Ref sig .tc := ⟨.hbm, 211, rfl⟩
abbrev main_v143 : Ref sig .tc := ⟨.hbm, 212, rfl⟩
abbrev main_cst_60 : Ref sig .tc := ⟨.hbm, 213, rfl⟩
abbrev main_v144 : Ref sig .tc := ⟨.hbm, 214, rfl⟩
abbrev main_cst_61 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_62 : Ref sig .tc := ⟨.hbm, 219, rfl⟩
abbrev main_v148 : Ref sig .tc := ⟨.hbm, 220, rfl⟩
abbrev main_cst_63 : Ref sig .tc := ⟨.hbm, 221, rfl⟩
abbrev main_v149 : Ref sig .tc := ⟨.hbm, 222, rfl⟩
abbrev main_v150 : Ref sig .tc := ⟨.hbm, 223, rfl⟩
abbrev main_cst_64 : Ref sig .tc := ⟨.hbm, 224, rfl⟩
abbrev main_v151 : Ref sig .tc := ⟨.hbm, 225, rfl⟩
abbrev main_cst_65 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x256x180 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S360x180 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x180 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S360x180 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Decode.lean ====
module

public import Idealize.ShloMosaic.Lib.BitcastFour
public import Idealize.ShloMosaic.Lib.Pointwise

/-!
# A four-bit code through an eight-bit float

The kernel turns the two four-bit codes of a byte into two eight-bit floats by moving bits, four bytes at a time
in a 32-bit word, and the reference reads the same codes by a table. This file says, for one byte, that the
float the kernel makes is the table's value times 2⁻⁶, and that the word arithmetic acts on each byte alone.
-/

@[expose] public section

set_option maxRecDepth 16384

noncomputable section

namespace Cert.Decode

open Idealize.ShloMosaic

/-- The eight-bit float pattern made of the low four bits of a byte: sign to the top, the other three bits
    across the border of exponent and significand. -/
def loByte (c : BitVec 8) : BitVec 8 := ((c &&& 7#8) <<< 2) ||| ((c &&& 8#8) <<< 4)

/-- The same of the high four bits. -/
def hiByte (c : BitVec 8) : BitVec 8 := ((c >>> 2) &&& 28#8) ||| (c &&& 128#8)

/-- Bit `8 * k + q` of the word arithmetic for the low codes depends on byte `k` alone. -/
theorem lo_word (w : BitVec 32) (b : BitVec 8) (k q : ℕ) (hk : k < 4) (hq : q < 8)
    (hw : ∀ q' : ℕ, q' < 8 → w.getLsbD (8 * k + q') = b.getLsbD q') :
    (((w &&& 117901063#32) <<< 2) ||| ((w &&& 134744072#32) <<< 4)).getLsbD (8 * k + q) = (loByte b).getLsbD q := by
  have h0 := hw 0 (by omega)
  have h1 := hw 1 (by omega)
  have h2 := hw 2 (by omega)
  have h3 := hw 3 (by omega)
  interval_cases k <;> interval_cases q <;>
    simp_all [loByte, BitVec.getLsbD_or, BitVec.getLsbD_and, BitVec.getLsbD_shiftLeft]

/-- Bit `8 * k + q` of the word arithmetic for the high codes depends on byte `k` alone. -/
theorem hi_word (w : BitVec 32) (b : BitVec 8) (k q : ℕ) (hk : k < 4) (hq : q < 8)
    (hw : ∀ q' : ℕ, q' < 8 → w.getLsbD (8 * k + q') = b.getLsbD q') :
    (((w.sshiftRight 2) &&& 471604252#32) ||| (w &&& 2155905152#32)).getLsbD (8 * k + q) = (hiByte b).getLsbD q := by
  have h4 := hw 4 (by omega)
  have h5 := hw 5 (by omega)
  have h6 := hw 6 (by omega)
  have h7 := hw 7 (by omega)
  interval_cases k <;> interval_cases q <;>
    simp_all [hiByte, BitVec.getLsbD_or, BitVec.getLsbD_and, BitVec.getLsbD_sshiftRight, BitVec.getLsbD_ushiftRight, BitVec.getElem_sshiftRight]

section Bytes

variable {R r n : ℕ}

/-- Read back at eight bits, a word holds at bit `q` of source row `a` its own bit `8 * (a % 4) + q`. -/
theorem bitcast_32_8_getLsbD (y : (⟨2, ![r, n]⟩ : Shape).Idx → BitVec 32)
    (h : (⟨2, ![r, n]⟩ : Shape).Bitcasts 32 ⟨2, ![R, n]⟩ 8) (a : Fin R) (l : Fin n) (p : Fin r)
    (hp : p.val = a.val / 4) (q : ℕ) (hq : q < 8) :
    (bitcast ⟨2, ![R, n]⟩ 8 y h (ix2 a l)).getLsbD q = (y (ix2 p l)).getLsbD (8 * (a.val % 4) + q) := by
  rw [bitcast_getLsbD y h _ q hq (by decide)]
  have hrow : (Shape.row (⟨2, ![R, n]⟩ : Shape) (ix2 a l)) = a.val := rfl
  have e : (Shape.row (⟨2, ![R, n]⟩ : Shape) (ix2 a l) * 8 + q) % 32 = 8 * (a.val % 4) + q := by rw [hrow]; omega
  rw [e]
  congr 2
  funext c
  match c with
  | ⟨0, _⟩ => exact Fin.ext ((h.srcIdx_row _ _ _ ⟨0, Nat.zero_lt_two⟩ rfl).trans (by rw [hrow]; show _ = p.val; omega))
  | ⟨1, _⟩ => exact Fin.ext (h.srcIdx_other _ _ _ ⟨1, Nat.one_lt_two⟩ (by show ¬ 1 + 2 = 2; omega))

/-- What the words of `w` hold: byte `a % 4` of word row `a / 4` is `b a l`. -/
def HasBytes (w : IVec ⟨2, ![r, n]⟩ 32) (b : Fin R → Fin n → BitVec 8) : Prop :=
  ∀ (a : Fin R) (l : Fin n) (p : Fin r), p.val = a.val / 4 → ∀ q, q < 8 →
    (w (ix2 p l)).getLsbD (8 * (a.val % 4) + q) = (b a l).getLsbD q

/-- Bytes read as words. -/
theorem hasBytes_bitcast (hR : R = 4 * r) (x : IVec ⟨2, ![R, n]⟩ 8) (h : (⟨2, ![R, n]⟩ : Shape).Bitcasts 8 ⟨2, ![r, n]⟩ 32) :
    HasBytes (bitcast ⟨2, ![r, n]⟩ 32 x h) fun a l => x (ix2 a l) := by
  intro a l p hp q hq
  have ha := a.isLt
  refine (bitcast_8_32_getLsbD_ix2 x h p l _ (by omega) a (by omega)).trans ?_
  show (x (ix2 a l)).getLsbD _ = _
  congr 1; omega

/-- The low codes' patterns, as the kernel computes them from words: masks and shifts, then words to bytes. -/
def loBytes (w : IVec ⟨2, ![r, n]⟩ 32) (h' : (⟨2, ![r, n]⟩ : Shape).Bitcasts 32 ⟨2, ![R, n]⟩ 8) : IVec ⟨2, ![R, n]⟩ 8 :=
  bitcast ⟨2, ![R, n]⟩ 8
    (ori (shli (andi w (broadcast ⟨2, ![r, n]⟩ 117901063#32)) (broadcast ⟨2, ![r, n]⟩ 2#32))
      (shli (andi w (broadcast ⟨2, ![r, n]⟩ 134744072#32)) (broadcast ⟨2, ![r, n]⟩ 4#32))) h'

/-- The high codes' patterns. -/
def hiBytes (w : IVec ⟨2, ![r, n]⟩ 32) (h' : (⟨2, ![r, n]⟩ : Shape).Bitcasts 32 ⟨2, ![R, n]⟩ 8) : IVec ⟨2, ![R, n]⟩ 8 :=
  bitcast ⟨2, ![R, n]⟩ 8
    (ori (andi (shrsi w (broadcast ⟨2, ![r, n]⟩ 2#32)) (broadcast ⟨2, ![r, n]⟩ 471604252#32))
      (andi w (broadcast ⟨2, ![r, n]⟩ 2155905152#32))) h'

theorem loBytes_apply (hR : R = 4 * r) (w : IVec ⟨2, ![r, n]⟩ 32) (b : Fin R → Fin n → BitVec 8) (hw : HasBytes w b)
    (h' : (⟨2, ![r, n]⟩ : Shape).Bitcasts 32 ⟨2, ![R, n]⟩ 8) (a : Fin R) (l : Fin n) :
    loBytes w h' (ix2 a l) = loByte (b a l) := by
  have ha := a.isLt
  apply BitVec.eq_of_getLsbD_eq
  intro q hq
  unfold loBytes
  rw [bitcast_32_8_getLsbD _ h' a l ⟨a.val / 4, by omega⟩ rfl q hq]
  exact lo_word _ _ _ q (by omega) hq fun q' hq' => hw a l ⟨a.val / 4, by omega⟩ rfl q' hq'

theorem hiBytes_apply (hR : R = 4 * r) (w : IVec ⟨2, ![r, n]⟩ 32) (b : Fin R → Fin n → BitVec 8) (hw : HasBytes w b)
    (h' : (⟨2, ![r, n]⟩ : Shape).Bitcasts 32 ⟨2, ![R, n]⟩ 8) (a : Fin R) (l : Fin n) :
    hiBytes w h' (ix2 a l) = hiByte (b a l) := by
  have ha := a.isLt
  apply BitVec.eq_of_getLsbD_eq
  intro q hq
  unfold hiBytes
  rw [bitcast_32_8_getLsbD _ h' a l ⟨a.val / 4, by omega⟩ rfl q hq]
  exact hi_word _ _ _ q (by omega) hq fun q' hq' => hw a l ⟨a.val / 4, by omega⟩ rfl q' hq'

end Bytes

/-! ## The table -/

/-- The magnitude the reference's table gives a code (its low three bits). -/
def mag (x : BitVec 32) : EReal :=
  Scalar.select (IntOp.cmpi .ne (IntOp.andi x 4#32) 0#32)
    (Scalar.select (IntOp.cmpi .ne (IntOp.andi x 2#32) 0#32)
      (Scalar.select (IntOp.cmpi .ne (IntOp.andi x 1#32) 0#32) (Ideal.ofBits .bf16 0x40C0#16) (Ideal.ofBits .bf16 0x4080#16))
      (Scalar.select (IntOp.cmpi .ne (IntOp.andi x 1#32) 0#32) (Ideal.ofBits .bf16 0x4040#16) (Ideal.ofBits .bf16 0x4000#16)))
    (Scalar.select (IntOp.cmpi .ne (IntOp.andi x 2#32) 0#32)
      (Scalar.select (IntOp.cmpi .ne (IntOp.andi x 1#32) 0#32) (Ideal.ofBits .bf16 0x3FC0#16) (Ideal.ofBits .bf16 0x3F80#16))
      (Scalar.select (IntOp.cmpi .ne (IntOp.andi x 1#32) 0#32) (Ideal.ofBits .bf16 0x3F00#16) (Ideal.ofBits .bf16 0x0000#16)))

/-- The value the reference's table gives a code: the magnitude, negated where bit 3 is set. -/
def table (x : BitVec 32) : EReal :=
  Scalar.select (IntOp.cmpi .ne (IntOp.andi x 8#32) 0#32) (-(mag x)) (mag x)

/-- What an eight-bit float pattern denotes. -/
def fp8 (b : BitVec 8) : EReal := Ideal.ofBits .fp8e4m3 b

/-- The reference's value of the low code of a byte. -/
def lo (c : BitVec 8) : EReal := table (IntOp.andi (c.setWidth 32) 15#32)

/-- The reference's value of the high code of a byte. -/
def hi (c : BitVec 8) : EReal := table (IntOp.shrsi .host (c.setWidth 32) 4#32)

/-- The sixteen codes: the float the kernel makes of a code is the table's value times 2⁻⁶. -/
theorem table_eq (n : Fin 16) :
    table (BitVec.ofNat 32 n) = fp8 (loByte (BitVec.ofNat 8 n)) * ((64 : ℝ) : EReal) := by
  unfold table mag fp8 loByte
  fin_cases n <;>
    simp [Ideal.ofBits, Ideal.ieee, Ideal.e4m3fn, Scalar.select, IntOp.cmpi, IntOp.andi, ← EReal.coe_mul,
      ← EReal.coe_neg, -EReal.coe_mul, -EReal.coe_neg] <;>
    first | done | (rw [← EReal.coe_mul]; norm_num)

theorem lo_eq (c : BitVec 8) : lo c = fp8 (loByte c) * ((64 : ℝ) : EReal) := by
  have key : ∀ i : Fin 256, IntOp.andi ((BitVec.ofNat 8 i).setWidth 32) 15#32 = BitVec.ofNat 32 (i.val % 16)
      ∧ loByte (BitVec.ofNat 8 i) = loByte (BitVec.ofNat 8 (i.val % 16)) := by decide +kernel
  have h := key ⟨c.toNat, c.isLt⟩
  simp only [BitVec.ofNat_toNat, BitVec.setWidth_eq] at h
  unfold lo
  rw [h.1, h.2]
  exact table_eq ⟨c.toNat % 16, by omega⟩

theorem hi_eq (c : BitVec 8) : hi c = fp8 (hiByte c) * ((64 : ℝ) : EReal) := by
  have key : ∀ i : Fin 256, IntOp.shrsi .host ((BitVec.ofNat 8 i).setWidth 32) 4#32 = BitVec.ofNat 32 (i.val / 16)
      ∧ hiByte (BitVec.ofNat 8 i) = loByte (BitVec.ofNat 8 (i.val / 16)) := by decide +kernel
  have h := key ⟨c.toNat, c.isLt⟩
  simp only [BitVec.ofNat_toNat, BitVec.setWidth_eq] at h
  unfold hi
  rw [h.1, h.2]
  exact table_eq ⟨c.toNat / 16, by have := c.isLt; omega⟩

/-- A byte of zeros decodes to zero. -/
theorem fp8_lo_zero : fp8 (loByte 0#8) = 0 := by
  simp [fp8, loByte, Ideal.ofBits, Ideal.e4m3fn]

theorem fp8_hi_zero : fp8 (hiByte 0#8) = 0 := by
  simp [fp8, hiByte, Ideal.ofBits, Ideal.e4m3fn]

/-- One term of the kernel's dot product against the reference's: the factors 2⁻⁶ of the two codes and the 4096 of
    the scale cancel. -/
theorem term_eq (a b s t : EReal) :
    (a * ((64 : ℝ) : EReal)) * s * ((b * ((64 : ℝ) : EReal)) * t) = (a * s) * (b * (t * ((4096 : ℝ) : EReal))) := by
  have h : ((4096 : ℝ) : EReal) = ((64 : ℝ) : EReal) * ((64 : ℝ) : EReal) := by rw [← EReal.coe_mul]; norm_num
  rw [h]; ac_rfl

end Cert.Decode

end
-- ==== Proof.Tile.lean ====
module

public import proofs.«01_k».proof.Proof.Decode
public import Idealize.ShloMosaic.Lib.Pointwise
public import Idealize.ShloMosaic.Lib.WholeRead
public import Idealize.ShloMosaic.Lib.Pipeline.Value

/-!
# Tiles of 128 lanes

The kernel walks its operands 128 lanes at a time, the last tile padded with zeros. Here an array is read at any pair of
naturals, with a default outside (`at2`), so that a padded tile is a tile like the others; and each kind of tile the
kernel computes (the loaded scales, the scales spread over their eight bytes, the decoded codes) is one property.
-/

@[expose] public section

set_option maxRecDepth 16384

noncomputable section

namespace Cert.Tile

open Idealize.ShloMosaic Cert.Decode

/-- An array at a pair of naturals: the default outside. -/
def at2 {α : Type} {R C : ℕ} (d : α) (X : (⟨2, ![R, C]⟩ : Shape).Idx → α) (r c : ℕ) : α :=
  if h : r < R ∧ c < C then X (ix2 ⟨r, h.1⟩ ⟨c, h.2⟩) else d

theorem at2_of_lt {α : Type} {R C : ℕ} (d : α) (X : (⟨2, ![R, C]⟩ : Shape).Idx → α) {r c : ℕ} (hr : r < R) (hc : c < C) :
    at2 d X r c = X (ix2 ⟨r, hr⟩ ⟨c, hc⟩) := dif_pos ⟨hr, hc⟩

theorem at2_of_le {α : Type} {R C : ℕ} (d : α) (X : (⟨2, ![R, C]⟩ : Shape).Idx → α) {r c : ℕ} (hc : C ≤ c) :
    at2 d X r c = d := dif_neg fun h => by omega

theorem at2_val {α : Type} {R C : ℕ} (d : α) (X : (⟨2, ![R, C]⟩ : Shape).Idx → α) (a : Fin R) (b : Fin C) :
    at2 d X a.val b.val = X (ix2 a b) := dif_pos ⟨a.isLt, b.isLt⟩

/-- A vector is the block of `X` at row `r0`, column `c0`. -/
def IsTile {α : Type} {R C n w : ℕ} (v : (⟨2, ![n, w]⟩ : Shape).Idx → α) (d : α) (X : (⟨2, ![R, C]⟩ : Shape).Idx → α) (r0 c0 : ℕ) : Prop :=
  ∀ (a : Fin n) (l : Fin w), v (ix2 a l) = at2 d X (r0 + a.val) (c0 + l.val)

/-- A block loaded inside an array. -/
theorem isTile_ld {α : Type} {R C n w r0 c0 o0 o1 : ℕ} (d : α) (X : (⟨2, ![R, C]⟩ : Shape).Idx → α) {v : (⟨2, ![n, w]⟩ : Shape).Idx → α}
    (hv : ∀ p, ∃ y, v p = X y ∧ (y 0).val = o0 + 1 * (p 0).val ∧ (y 1).val = o1 + 1 * (p 1).val) (e0 : o0 = r0) (e1 : o1 = c0) :
    IsTile v d X r0 c0 := by
  subst e0 e1
  intro a l
  obtain ⟨y, e, h0, h1⟩ := hv (ix2 a l)
  have b0 := (y 0).isLt
  have b1 := (y 1).isLt
  rw [one_mul] at h0 h1
  rw [at2_of_lt d X (show o0 + a.val < R from h0 ▸ b0) (show o1 + l.val < C from h1 ▸ b1), e]
  refine congrArg X (funext fun b => ?_)
  match b with
  | ⟨0, _⟩ => exact Fin.ext h0
  | ⟨1, _⟩ => exact Fin.ext h1

/-! ## The scales of a tile -/

variable {R : ℕ}

/-- The lane each lane of a tile takes its scale from, as the kernel computes it: `base + lane / 8`. -/
def lanes (it : IVec ⟨2, ![R, 128]⟩ 32) (b : BitVec 32) (h : (⟨2, ![R, 128]⟩ : Shape).ShapeCasts ⟨3, ![R, 128, 1]⟩)
    (h' : (⟨3, ![R, 128, 1]⟩ : Shape).ShapeCasts ⟨2, ![R, 128]⟩) : IVec ⟨2, ![R, 128]⟩ 32 :=
  let sg := subi (extui 32 (cmpi .sgt it (broadcast ⟨2, ![R, 128]⟩ 0#32)) (by decide)) (extui 32 (cmpi .slt it (broadcast ⟨2, ![R, 128]⟩ 0#32)) (by decide))
  let sc : BitVec 32 := Scalar.subi (Scalar.extui (Scalar.cmpi .sgt 8#32 0#32)) (Scalar.extui (Scalar.cmpi .slt 8#32 0#32))
  let q := divsi it (broadcast ⟨2, ![R, 128]⟩ 8#32)
  let c := andi (cmpi .ne sg (broadcast ⟨2, ![R, 128]⟩ sc)) (cmpi .ne (remsi it (broadcast ⟨2, ![R, 128]⟩ 8#32)) (broadcast ⟨2, ![R, 128]⟩ 0#32))
  let f := select c (subi q (broadcast ⟨2, ![R, 128]⟩ 1#32)) q
  let s := addi (broadcast ⟨2, ![R, 128]⟩ b) f
  let g := select (cmpi .slt s (broadcast ⟨2, ![R, 128]⟩ 0#32)) (addi s (broadcast ⟨2, ![R, 128]⟩ 128#32)) s
  shapeCast ⟨2, ![R, 128]⟩ (shapeCast ⟨3, ![R, 128, 1]⟩ g h) h'

/-- The same for one lane's number. -/
def lane (x b : BitVec 32) : BitVec 32 :=
  let sg := IntOp.subi ((IntOp.cmpi .sgt x 0#32).setWidth 32) ((IntOp.cmpi .slt x 0#32).setWidth 32)
  let sc : BitVec 32 := Scalar.subi (Scalar.extui (Scalar.cmpi .sgt 8#32 0#32)) (Scalar.extui (Scalar.cmpi .slt 8#32 0#32))
  let q := IntOp.divsi .vector x 8#32
  let c := IntOp.andi (IntOp.cmpi .ne sg sc) (IntOp.cmpi .ne (IntOp.remsi .vector x 8#32) 0#32)
  let f := Scalar.select c (IntOp.subi q 1#32) q
  let s := IntOp.addi b f
  Scalar.select (IntOp.cmpi .slt s 0#32) (IntOp.addi s 128#32) s

theorem lane_eq : ∀ (k : Fin 8) (l : Fin 128), (lane (BitVec.ofNat 32 l.val) (BitVec.ofNat 32 (16 * k.val))).toNat = 16 * k.val + l.val / 8 := by
  decide +kernel

theorem lanes_apply (it : IVec ⟨2, ![R, 128]⟩ 32) (hit : ∀ a l, it (ix2 a l) = BitVec.ofNat 32 l.val) (b : BitVec 32)
    (h : (⟨2, ![R, 128]⟩ : Shape).ShapeCasts ⟨3, ![R, 128, 1]⟩) (h' : (⟨3, ![R, 128, 1]⟩ : Shape).ShapeCasts ⟨2, ![R, 128]⟩)
    (a : Fin R) (l : Fin 128) : lanes it b h h' (ix2 a l) = lane (BitVec.ofNat 32 l.val) b := by
  unfold lanes lane
  rw [← hit a l]
  dsimp only
  rw [shapeCast_shapeCast]
  rfl

/-- A tile of spread scales: lane `l` holds the scale of byte `j0 + l`. -/
def IsSc {n C : ℕ} (g : (⟨2, ![R, 128]⟩ : Shape).Idx → EReal) (X : (⟨2, ![n, C]⟩ : Shape).Idx → EReal) (r0 j0 : ℕ) : Prop :=
  ∀ (a : Fin R) (l : Fin 128), g (ix2 a l) = at2 0 X (r0 + a.val) ((j0 + l.val) / 8)

theorem isSc_gather {n C r0 c0 j0 : ℕ} {X : (⟨2, ![n, C]⟩ : Shape).Idx → EReal} {v : FVec Ideal ⟨2, ![R, 128]⟩ .f32}
    (hv : IsTile v 0 X r0 c0) {it : IVec ⟨2, ![R, 128]⟩ 32} (hit : ∀ a l, it (ix2 a l) = BitVec.ofNat 32 l.val) {b : BitVec 32}
    (h : (⟨2, ![R, 128]⟩ : Shape).ShapeCasts ⟨3, ![R, 128, 1]⟩) (h' : (⟨3, ![R, 128, 1]⟩ : Shape).ShapeCasts ⟨2, ![R, 128]⟩)
    (hb : b.toNat % 16 = 0) (hb' : b.toNat < 128) (hj : j0 = 8 * (c0 + b.toNat)) :
    IsSc (dynamicGather (s := ⟨2, ![R, 128]⟩) 1 v (lanes it b h h')) X r0 j0 := by
  intro a l
  have hl := l.isLt
  have e : (lanes it b h h' (ix2 a l)).toNat = b.toNat + l.val / 8 := by
    rw [lanes_apply it hit]
    have := lane_eq ⟨b.toNat / 16, by omega⟩ l
    have hk : 16 * (b.toNat / 16) = b.toNat := by omega
    simp only [hk, BitVec.ofNat_toNat, BitVec.setWidth_eq] at this
    exact this
  rw [dynamicGather_apply]
  have hlt : b.toNat + l.val / 8 < 128 := by omega
  refine Eq.trans (congrArg v ?_) ((hv a ⟨b.toNat + l.val / 8, hlt⟩).trans ?_)
  · funext c
    match c with
    | ⟨0, _⟩ => rfl
    | ⟨1, _⟩ => exact Fin.ext (by simp only [e]; exact Nat.mod_eq_of_lt hlt)
  · congr 1; show c0 + (b.toNat + l.val / 8) = _; omega

/-- The last tile's scales are zeroed outside the array: as they were. -/
theorem isSc_where {n C r0 j0 : ℕ} {X : (⟨2, ![n, C]⟩ : Shape).Idx → EReal} {g : FVec Ideal ⟨2, ![R, 128]⟩ .f32}
    (hg : IsSc g X r0 j0) {it : IVec ⟨2, ![R, 128]⟩ 32} (hit : ∀ a l, it (ix2 a l) = BitVec.ofNat 32 l.val) (hC : 8 * C ≤ j0 + 32) :
    IsSc (select (cmpi .slt it (broadcast ⟨2, ![R, 128]⟩ 32#32)) g (broadcast ⟨2, ![R, 128]⟩ (Scalar.sitofp (F := Ideal) .f32 0#32))) X r0 j0 := by
  intro a l
  have key : ∀ l : Fin 128, IntOp.cmpi .slt (BitVec.ofNat 32 l.val) 32#32 = if l.val < 32 then 1#1 else 0#1 := by decide +kernel
  show Scalar.select (IntOp.cmpi .slt (it (ix2 a l)) 32#32) (g (ix2 a l)) (Scalar.sitofp (F := Ideal) .f32 0#32) = _
  rw [hit, key]
  by_cases hl : l.val < 32
  · rw [if_pos hl]; exact hg a l
  · rw [if_neg hl, at2_of_le _ _ (by omega)]
    show Scalar.sitofp (F := Ideal) .f32 0#32 = 0
    simp [Ideal.scalar_sitofp_def]

/-! ## Loaded tiles -/

theorem isTile_cast {α : Type} {n C m w r0 c0 : ℕ} {d : α} {X : (⟨2, ![n, C]⟩ : Shape).Idx → α} {v : (⟨2, ![m, w]⟩ : Shape).Idx → α}
    (hv : IsTile v d X r0 c0) (h : (⟨2, ![m, w]⟩ : Shape).ShapeCasts ⟨2, ![m, w]⟩) : IsTile (shapeCast ⟨2, ![m, w]⟩ v h) d X r0 c0 := by
  rw [shapeCast_self]; exact hv

theorem isTile_ext {n C m w r0 c0 : ℕ} {X : (⟨2, ![n, C]⟩ : Shape).Idx → EReal} {v : FVec Ideal ⟨2, ![m, w]⟩ .fp8e4m3}
    (hv : IsTile v 0 X r0 c0) (h : FTy.fp8e4m3.bits < FTy.f32.bits) : IsTile (extf (F := Ideal) .f32 v h) 0 X r0 c0 := hv

/-- A tile cut by the array's end, padded with zeros. -/
theorem isTile_pad {n C m w w' r0 c0 : ℕ} {X : (⟨2, ![n, C]⟩ : Shape).Idx → EReal} {v : FVec Ideal ⟨2, ![m, w]⟩ .f32}
    (hv : IsTile v 0 X r0 c0) (hw : w + w' = 128) (hC : C ≤ c0 + w)
    (h : Shape.Concatenates [⟨2, ![m, w]⟩, ⟨2, ![m, w']⟩] ⟨2, ![m, 128]⟩ 1) :
    IsTile (concatenate (⟨2, ![m, 128]⟩ : Shape) 1 [⟨⟨2, ![m, w]⟩, v⟩, ⟨⟨2, ![m, w']⟩, broadcast ⟨2, ![m, w']⟩ (Scalar.ofBits (F := Ideal) .f32 0x00000000#32)⟩] h)
      0 X r0 c0 := by
  intro a l
  have hl := l.isLt
  pointwise
  by_cases hlt : l.val < w
  · rw [dif_pos hlt]
    refine Eq.trans (congrArg v ?_) (hv a ⟨l.val, hlt⟩)
    funext b
    match b with
    | ⟨0, _⟩ => rfl
    | ⟨1, _⟩ => rfl
  · rw [dif_neg hlt, at2_of_le _ _ (by omega)]

/-- Words whose bytes are the block of `X` at row `r0`, column `c0`. -/
def IsWords {n C m r : ℕ} (w : IVec ⟨2, ![r, 128]⟩ 32) (X : (⟨2, ![n, C]⟩ : Shape).Idx → BitVec 8) (r0 c0 : ℕ) : Prop :=
  HasBytes (R := m) w fun a l => at2 0#8 X (r0 + a.val) (c0 + l.val)

theorem isWords_bitcast {n C m r r0 c0 : ℕ} {X : (⟨2, ![n, C]⟩ : Shape).Idx → BitVec 8} {x : IVec ⟨2, ![m, 128]⟩ 8}
    (hx : IsTile x 0#8 X r0 c0) (hm : m = 4 * r) (h : (⟨2, ![m, 128]⟩ : Shape).Bitcasts 8 ⟨2, ![r, 128]⟩ 32) :
    IsWords (m := m) (bitcast ⟨2, ![r, 128]⟩ 32 x h) X r0 c0 := by
  intro a l p hp q hq
  refine (hasBytes_bitcast hm x h a l p hp q hq).trans ?_
  show (x (ix2 a l)).getLsbD q = _
  rw [hx]

theorem isWords_pad {n C m r w w' r0 c0 : ℕ} {X : (⟨2, ![n, C]⟩ : Shape).Idx → BitVec 8} {x : IVec ⟨2, ![m, w]⟩ 8}
    (hx : IsTile x 0#8 X r0 c0) (hm : m = 4 * r) (hw : w + w' = 128) (hC : C ≤ c0 + w)
    (h : (⟨2, ![m, w]⟩ : Shape).Bitcasts 8 ⟨2, ![r, w]⟩ 32)
    (hc : Shape.Concatenates [⟨2, ![r, w]⟩, ⟨2, ![r, w']⟩] ⟨2, ![r, 128]⟩ 1) :
    IsWords (m := m) (concatenate (⟨2, ![r, 128]⟩ : Shape) 1 [⟨⟨2, ![r, w]⟩, bitcast ⟨2, ![r, w]⟩ 32 x h⟩, ⟨⟨2, ![r, w']⟩, broadcast ⟨2, ![r, w']⟩ 0#32⟩] hc)
      X r0 c0 := by
  intro a l p hp q hq
  have hl := l.isLt
  pointwise
  by_cases hlt : l.val < w
  · rw [dif_pos hlt]
    have ei : (Shape.Idx.norm fun b => ⟨(ix2 p l b).val, by match b with | ⟨0, _⟩ => exact p.isLt | ⟨1, _⟩ => exact hlt⟩ : (⟨2, ![r, w]⟩ : Shape).Idx) = ix2 p ⟨l.val, hlt⟩ := by
      funext b
      match b with
      | ⟨0, _⟩ => rfl
      | ⟨1, _⟩ => rfl
    refine (congrArg (fun i => (bitcast (⟨2, ![r, w]⟩ : Shape) 32 x h i).getLsbD (8 * (a.val % 4) + q)) ei).trans ?_
    refine (hasBytes_bitcast hm x h a ⟨l.val, hlt⟩ p hp q hq).trans ?_
    show (x (ix2 a ⟨l.val, hlt⟩)).getLsbD q = _
    rw [hx]
  · rw [dif_neg hlt, at2_of_le _ _ (by omega)]; simp

/-! ## Decoded tiles -/

/-- A decoded tile: lane `l` of row `a` holds the float of the code `f` cuts out of byte (`r0 + a`, `c0 + l`). -/
def IsDec {n C m : ℕ} (D : (⟨2, ![m, 128]⟩ : Shape).Idx → EReal) (X : (⟨2, ![n, C]⟩ : Shape).Idx → BitVec 8) (r0 c0 : ℕ)
    (f : BitVec 8 → BitVec 8) : Prop :=
  ∀ (a : Fin m) (l : Fin 128), D (ix2 a l) = fp8 (f (at2 0#8 X (r0 + a.val) (c0 + l.val)))

theorem isDec_lo {n C m r r0 c0 : ℕ} {X : (⟨2, ![n, C]⟩ : Shape).Idx → BitVec 8} {w : IVec ⟨2, ![r, 128]⟩ 32}
    (hw : IsWords (m := m) w X r0 c0) (hm : m = 4 * r) (h' : (⟨2, ![r, 128]⟩ : Shape).Bitcasts 32 ⟨2, ![m, 128]⟩ 8) (hl : FTy.fp8e4m3.bits < FTy.bf16.bits) :
    IsDec (extf (F := Ideal) .bf16 (bitcastToFloat .fp8e4m3 (loBytes w h')) hl) X r0 c0 loByte := fun a l =>
  congrArg fp8 (loBytes_apply hm w _ hw h' a l)

theorem isDec_hi {n C m r r0 c0 : ℕ} {X : (⟨2, ![n, C]⟩ : Shape).Idx → BitVec 8} {w : IVec ⟨2, ![r, 128]⟩ 32}
    (hw : IsWords (m := m) w X r0 c0) (hm : m = 4 * r) (h' : (⟨2, ![r, 128]⟩ : Shape).Bitcasts 32 ⟨2, ![m, 128]⟩ 8) (hl : FTy.fp8e4m3.bits < FTy.bf16.bits) :
    IsDec (extf (F := Ideal) .bf16 (bitcastToFloat .fp8e4m3 (hiBytes w h')) hl) X r0 c0 hiByte := fun a l =>
  congrArg fp8 (hiBytes_apply hm w _ hw h' a l)

/-! ## The scratch arrays, whole -/

/-- The float of the code at column `k` of an unpacked row: of 256 columns the first 128 hold the low codes of 128 bytes, the
    others the high codes of the same bytes. -/
def code {n C : ℕ} (X : (⟨2, ![n, C]⟩ : Shape).Idx → BitVec 8) (r k : ℕ) : EReal :=
  fp8 ((if k / 128 % 2 = 0 then loByte else hiByte) (at2 0#8 X r (k / 256 * 128 + k % 128)))

/-- The unpacked, scaled left operand. -/
def XD {n C C' : ℕ} (X : (⟨2, ![n, C]⟩ : Shape).Idx → BitVec 8) (S : (⟨2, ![n, C']⟩ : Shape).Idx → EReal) (N K : ℕ) :
    (⟨2, ![N, K]⟩ : Shape).Idx → EReal :=
  fun y => code X (y 0).val (y 1).val * at2 0 S (y 0).val (((y 1).val / 256 * 128 + (y 1).val % 128) / 8)

/-- The right operand's spread scales, times 4096. -/
def WSX {n C : ℕ} (S : (⟨2, ![n, C]⟩ : Shape).Idx → EReal) (N K : ℕ) : (⟨2, ![N, K]⟩ : Shape).Idx → EReal :=
  fun y => at2 0 S (y 0).val ((y 1).val / 8) * ((4096 : ℝ) : EReal)

/-- The unpacked, scaled right operand of one column block, whose scale rows start at `b`. -/
def WD {n C n' C' : ℕ} (X : (⟨2, ![n, C]⟩ : Shape).Idx → BitVec 8) (S : (⟨2, ![n', C']⟩ : Shape).Idx → EReal) (b N K : ℕ) :
    (⟨2, ![N, K]⟩ : Shape).Idx → EReal :=
  fun y => code X (y 0).val (y 1).val * at2 0 S (b + (y 0).val / 16) ((y 1).val / 256 * 128 + (y 1).val % 128)

theorem bits_4096 : Scalar.ofBits (F := Ideal) .f32 0x45800000#32 = ((4096 : ℝ) : EReal) := by
  simp [Scalar.ofBits, Ideal.ofBits_def, Ideal.ofBits, Ideal.ieee, ← EReal.coe_mul, -EReal.coe_mul]
  norm_num

/-- One store of spread scales. -/
theorem wsx_piece {n C N K m j0 o1 : ℕ} {S : (⟨2, ![n, C]⟩ : Shape).Idx → EReal} {g : FVec Ideal ⟨2, ![m, 128]⟩ .f32}
    (hg : IsSc g S 0 j0) (h : (⟨2, ![m, 128]⟩ : Shape).ShapeCasts ⟨2, ![m, 128]⟩)
    {p : (⟨2, ![m, 128]⟩ : Shape).Idx} {y : (⟨2, ![N, K]⟩ : Shape).Idx} (h0 : (y 0).val = 0 + 1 * (p 0).val) (h1 : (y 1).val = o1 + 1 * (p 1).val)
    (e1 : o1 = j0) :
    shapeCast (⟨2, ![m, 128]⟩ : Shape) (mulf (F := Ideal) (φ := .f32) g (broadcast ⟨2, ![m, 128]⟩ (Scalar.ofBits (F := Ideal) .f32 0x45800000#32))) h p
      = WSX S N K y := by
  subst e1
  obtain ⟨a, l, rfl⟩ : ∃ (a : Fin m) (l : Fin 128), p = ix2 a l := ⟨p 0, p 1, eq_ix2 p⟩
  rw [shapeCast_self]
  have h0 : (y 0).val = 0 + 1 * a.val := h0
  have h1 : (y 1).val = o1 + 1 * l.val := h1
  show g (ix2 a l) * Scalar.ofBits (F := Ideal) .f32 0x45800000#32 = at2 0 S (y 0).val ((y 1).val / 8) * _
  rw [h0, h1]
  rw [bits_4096, hg, one_mul, one_mul]

/-- The bytes of a tile are among 128: where the column's parts come from. -/
theorem code_lo {n C : ℕ} (X : (⟨2, ![n, C]⟩ : Shape).Idx → BitVec 8) (r c0 l : ℕ) (hc : c0 % 128 = 0) (hl : l < 128) :
    code X r (2 * c0 + l) = fp8 (loByte (at2 0#8 X r (c0 + l))) := by
  unfold code
  rw [if_pos (by omega), show (2 * c0 + l) / 256 * 128 + (2 * c0 + l) % 128 = c0 + l by omega]

theorem code_hi {n C : ℕ} (X : (⟨2, ![n, C]⟩ : Shape).Idx → BitVec 8) (r c0 l : ℕ) (hc : c0 % 128 = 0) (hl : l < 128) :
    code X r (2 * c0 + 128 + l) = fp8 (hiByte (at2 0#8 X r (c0 + l))) := by
  unfold code
  rw [if_neg (by omega), show (2 * c0 + 128 + l) / 256 * 128 + (2 * c0 + 128 + l) % 128 = c0 + l by omega]

/-- One store of the unpacked left operand: `C0` is twice the tile's first byte, and 128 more for the high codes. -/
theorem xd_piece {n C C' N K m r0 c0 C0 o0 o1 : ℕ} {X : (⟨2, ![n, C]⟩ : Shape).Idx → BitVec 8} {S : (⟨2, ![n, C']⟩ : Shape).Idx → EReal}
    {D s : FVec Ideal ⟨2, ![m, 128]⟩ .bf16} {f : BitVec 8 → BitVec 8} (hD : IsDec D X r0 c0 f) (hs : IsSc s S r0 c0)
    (hf : f = loByte ∧ C0 = 2 * c0 ∨ f = hiByte ∧ C0 = 2 * c0 + 128) (hc : c0 % 128 = 0)
    (h : (⟨2, ![m, 128]⟩ : Shape).ShapeCasts ⟨2, ![m, 128]⟩) {p : (⟨2, ![m, 128]⟩ : Shape).Idx} {y : (⟨2, ![N, K]⟩ : Shape).Idx}
    (h0 : (y 0).val = o0 + 1 * (p 0).val) (h1 : (y 1).val = o1 + 1 * (p 1).val) (e0 : o0 = r0) (e1 : o1 = C0) :
    shapeCast (⟨2, ![m, 128]⟩ : Shape) (mulf (F := Ideal) (φ := .bf16) D s) h p
      = XD X S N K y := by
  subst e0 e1
  obtain ⟨a, l, rfl⟩ : ∃ (a : Fin m) (l : Fin 128), p = ix2 a l := ⟨p 0, p 1, eq_ix2 p⟩
  have hl := l.isLt
  rw [shapeCast_self]
  have h0 : (y 0).val = o0 + 1 * a.val := h0
  have h1 : (y 1).val = o1 + 1 * l.val := h1
  show D (ix2 a l) * s (ix2 a l) = code X (y 0).val (y 1).val * at2 0 S (y 0).val (((y 1).val / 256 * 128 + (y 1).val % 128) / 8)
  rw [h0, h1, one_mul, one_mul, hD, hs]
  obtain ⟨rfl, rfl⟩ | ⟨rfl, rfl⟩ := hf
  · rw [code_lo X _ c0 l hc hl, show (2 * c0 + l.val) / 256 * 128 + (2 * c0 + l.val) % 128 = c0 + l.val by omega]
  · rw [code_hi X _ c0 l hc hl, show (2 * c0 + 128 + l.val) / 256 * 128 + (2 * c0 + 128 + l.val) % 128 = c0 + l.val by omega]

/-- One store of the unpacked right operand: sixteen rows of a decoded tile times one row of eight loaded scale rows. -/
theorem wd_piece {n C n' C' N K m c0 c1 C0 R0 R1 base sub b : ℕ} {X : (⟨2, ![n, C]⟩ : Shape).Idx → BitVec 8} {S : (⟨2, ![n', C']⟩ : Shape).Idx → EReal}
    {D : FVec Ideal ⟨2, ![m, 128]⟩ .bf16} {v : FVec Ideal ⟨2, ![8, 128]⟩ .f32} {f : BitVec 8 → BitVec 8}
    (h1 : (⟨2, ![m, 128]⟩ : Shape).Slices ![R0, 0] ⟨2, ![16, 128]⟩) (h2 : (⟨2, ![8, 128]⟩ : Shape).Slices ![sub, 0] ⟨2, ![1, 128]⟩)
    (h3 : (⟨2, ![1, 128]⟩ : Shape).ShapeCasts ⟨2, ![1, 128]⟩) (h4 : (⟨2, ![1, 128]⟩ : Shape).Broadcasts ⟨2, ![16, 128]⟩)
    (h5 : FTy.bf16.bits < FTy.f32.bits) (h : (⟨2, ![16, 128]⟩ : Shape).ShapeCasts ⟨2, ![16, 128]⟩)
    {p : (⟨2, ![16, 128]⟩ : Shape).Idx} {y : (⟨2, ![N, K]⟩ : Shape).Idx} (y0 : (y 0).val = R1 + 1 * (p 0).val) (y1 : (y 1).val = C0 + 1 * (p 1).val)
    (hD : IsDec D X 0 c0 f) (hv : IsTile v 0 S base c1)
    (hf : f = loByte ∧ C0 = 2 * c0 ∨ f = hiByte ∧ C0 = 2 * c0 + 128) (hc : c0 % 128 = 0) (hc1 : c1 = c0) (hR : R1 = R0)
    (hb : 16 * base + 16 * sub = 16 * b + R0) (hR0 : R0 % 16 = 0) :
    shapeCast (⟨2, ![16, 128]⟩ : Shape) (mulf (F := Ideal) (φ := .bf16) (extractStridedSlice ⟨2, ![16, 128]⟩ ![R0, 0] D h1)
        (truncf (F := Ideal) .bf16 (broadcastTo ⟨2, ![16, 128]⟩ (shapeCast ⟨2, ![1, 128]⟩ (extractStridedSlice ⟨2, ![1, 128]⟩ ![sub, 0] v h2) h3) h4) h5)) h p
      = WD X S b N K y := by
  subst hc1 hR
  obtain ⟨a, l, rfl⟩ : ∃ (a : Fin 16) (l : Fin 128), p = ix2 a l := ⟨p 0, p 1, eq_ix2 p⟩
  have hl := l.isLt
  have ha := a.isLt
  have hRm : R1 + 16 ≤ m := by have := h1.2 0; simpa using this
  have hsub : sub + 1 ≤ 8 := by have := h2.2 0; simpa using this
  rw [shapeCast_self, shapeCast_self]
  have e1 : extractStridedSlice ⟨2, ![16, 128]⟩ ![R1, 0] D h1 (ix2 a l) = D (ix2 ⟨R1 + a.val, by omega⟩ l) := by
    pointwise
    refine congrArg D (funext fun b => ?_)
    match b with
    | ⟨0, _⟩ => rfl
    | ⟨1, _⟩ => exact Fin.ext (Nat.zero_add _)
  have e2 : broadcastTo ⟨2, ![16, 128]⟩ (extractStridedSlice ⟨2, ![1, 128]⟩ ![sub, 0] v h2) h4 (ix2 a l) = v (ix2 ⟨sub, by omega⟩ l) := by
    pointwise
  show extractStridedSlice ⟨2, ![16, 128]⟩ ![R1, 0] D h1 (ix2 a l) * broadcastTo ⟨2, ![16, 128]⟩ (extractStridedSlice ⟨2, ![1, 128]⟩ ![sub, 0] v h2) h4 (ix2 a l)
    = code X (y 0).val (y 1).val * at2 0 S (b + (y 0).val / 16) ((y 1).val / 256 * 128 + (y 1).val % 128)
  have y0 : (y 0).val = R1 + 1 * a.val := y0
  have y1 : (y 1).val = C0 + 1 * l.val := y1
  rw [e1, e2, y0, y1, one_mul, one_mul, hD, hv]
  have er : b + (R1 + a.val) / 16 = base + sub := by omega
  rw [er]
  obtain ⟨rfl, rfl⟩ | ⟨rfl, rfl⟩ := hf
  · rw [code_lo X _ c1 l hc hl, show (2 * c1 + l.val) / 256 * 128 + (2 * c1 + l.val) % 128 = c1 + l.val by omega]
    simp only [Nat.zero_add]
  · rw [code_hi X _ c1 l hc hl, show (2 * c1 + 128 + l.val) / 256 * 128 + (2 * c1 + 128 + l.val) % 128 = c1 + l.val by omega]
    simp only [Nat.zero_add]

end Cert.Tile

end
-- ==== Proof.LeftPieces.lean ====
module

public import proofs.«01_k».proof.Proof.Tile
public import proofs.«01_k».proof.Proof.Gen.KernelIdeal.Frame
public import Idealize.ShloMosaic.Lib.Pipeline.ReadBack
public import Idealize.ShloMosaic.Lib.Tactic.Stretches
public import Idealize.ShloMosaic.Lib.Tactic.RunNames

/-!
# The unpacked left operand

Every store of the first point's loop is a block of one array, `XD`.
-/

@[expose] public section

set_option maxRecDepth 16384

noncomputable section

namespace Cert.Pieces

open Idealize.ShloMosaic Idealize.ShloMosaic.TcCoe
open Cert.KernelIdeal Cert.KernelIdeal.Gen Cert.Decode Cert.Tile

theorem iota_at {R : ℕ} (h) (a : Fin R) (l : Fin 128) : iota .tc (⟨2, ![R, 128]⟩ : Shape) 32 [1] h (ix2 a l) = BitVec.ofNat 32 l.val := by
  pointwise

attribute [local irreducible] dynamicGather

set_option maxHeartbeats 4000000 in
theorem trip_pieces (c : Dev nD) (i : grid0.Coords) (arg1 : Memref sig .tc .smem S2 .f32) (harg1 : arg1.IsWhole) (arg2 : Memref sig .tc .smem S1 .f32) (harg2 : arg2.IsWhole) (arg3 : Memref sig .tc .vmem S1536x1440 .i8) (harg3 : arg3.IsWhole) (arg4 : Memref sig .tc .vmem S1536x180 .fp8e4m3) (harg4 : arg4.IsWhole) (arg5 : Memref sig .tc .vmem S384x1440 .i8) (harg5 : arg5.IsWhole) (arg6 : Memref sig .tc .vmem S360x180 .fp8e4m3) (harg6 : arg6.IsWhole) (arg7 : Memref sig .tc .vmem S1536x384 .bf16) (harg7 : arg7.IsWhole) (arg8 : Memref sig .tc .vmem S1536x3072 .bf16) (harg8 : arg8.IsWhole) (arg9 : Memref sig .tc .vmem S360x1536 .f32) (harg9 : arg9.IsWhole) (arg10 : Memref sig .tc .vmem S384x3072 .bf16) (harg10 : arg10.IsWhole)
    (h1 : k0_cond1 i = 1#1) (x2 : Vec Ideal S1536x1440 .i8) (x3 : Vec Ideal S1536x180 .fp8e4m3) (k : Fin k0_t1_loop.trips) :
    View.PiecesOf (XD x2 x3 1536 3072)
      (tripL_k0_t1 (F := Ideal) Variants.none c none i arg1 harg1 arg2 harg2 arg3 harg3 arg4 harg4 arg5 harg5 arg6 harg6 arg7 harg7 arg8 harg8 arg9 harg9 arg10 harg10 h1 (harg3.unread x2) (harg4.unread x3) k) := by
  unfold tripL_k0_t1 trip_k0_t1
  dsimp only
  refine ⟨?_, ?_, ?_⟩
  · sl_unfold_run_values; sl_open_pay; intro p
    apply xd_piece (f := hiByte)
    case h0 => exact rfl
    case h1 => exact rfl
    case e0 => exact rfl
    case e1 => conv_lhs => whnf
    case hD =>
      apply isDec_hi
      case hm => rfl
      apply isWords_pad
      case hm => rfl
      case hw => rfl
      case hx =>
        apply isTile_cast
        apply isTile_ld
        · intro p
          refine ⟨_, harg3.readAt_unread (Val := Elt Ideal) x2 _ _, ?_, ?_⟩ <;> exact rfl
        · exact rfl
        · conv_lhs => whnf
      case hC => decide
      all_goals decide
    case hf => exact .inr ⟨rfl, rfl⟩
    case hc => rfl
    case hs =>
      apply isSc_where
      case hit => exact iota_at _
      case hC => decide
      case hg =>
        apply isSc_gather
        case hit => exact iota_at _
        case hb => decide
        case hb' => decide
        case hv =>
          apply isTile_pad
          case hw => rfl
          case hv =>
            apply isTile_ext
            apply isTile_cast
            apply isTile_ld
            · intro p
              refine ⟨_, harg4.readAt_unread (Val := Elt Ideal) x3 _ _, ?_, ?_⟩ <;> exact rfl
            · exact rfl
            · conv_lhs => whnf
          case hC => decide
        case hj => rfl
  · sl_unfold_run_values; sl_open_pay; intro p
    apply xd_piece (f := loByte)
    case h0 => exact rfl
    case h1 => exact rfl
    case e0 => exact rfl
    case e1 => conv_lhs => whnf
    case hD =>
      apply isDec_lo
      case hm => rfl
      apply isWords_pad
      case hm => rfl
      case hw => rfl
      case hx =>
        apply isTile_cast
        apply isTile_ld
        · intro p
          refine ⟨_, harg3.readAt_unread (Val := Elt Ideal) x2 _ _, ?_, ?_⟩ <;> exact rfl
        · exact rfl
        · conv_lhs => whnf
      case hC => decide
      all_goals decide
    case hf => exact .inl ⟨rfl, rfl⟩
    case hc => rfl
    case hs =>
      apply isSc_where
      case hit => exact iota_at _
      case hC => decide
      case hg =>
        apply isSc_gather
        case hit => exact iota_at _
        case hb => decide
        case hb' => decide
        case hv =>
          apply isTile_pad
          case hw => rfl
          case hv =>
            apply isTile_ext
            apply isTile_cast
            apply isTile_ld
            · intro p
              refine ⟨_, harg4.readAt_unread (Val := Elt Ideal) x3 _ _, ?_, ?_⟩ <;> exact rfl
            · exact rfl
            · conv_lhs => whnf
          case hC => decide
        case hj => rfl
  iterate 3
    refine ⟨?_, ?_, ?_⟩
    · sl_unfold_run_values; sl_open_pay; intro p
      apply xd_piece (f := hiByte)
      case h0 => exact rfl
      case h1 => exact rfl
      case e0 => exact rfl
      case e1 => conv_lhs => whnf
      case hD =>
        apply isDec_hi
        case hm => rfl
        apply isWords_bitcast
        case hm => rfl
        case hx =>
          apply isTile_cast
          apply isTile_ld
          · intro p
            refine ⟨_, harg3.readAt_unread (Val := Elt Ideal) x2 _ _, ?_, ?_⟩ <;> exact rfl
          · exact rfl
          · conv_lhs => whnf
      case hf => exact .inr ⟨rfl, rfl⟩
      case hc => rfl
      case hs =>
        apply isSc_gather
        case hit => exact iota_at _
        case hb => decide
        case hb' => decide
        case hv =>
          apply isTile_pad
          case hw => rfl
          case hv =>
            apply isTile_ext
            apply isTile_cast
            apply isTile_ld
            · intro p
              refine ⟨_, harg4.readAt_unread (Val := Elt Ideal) x3 _ _, ?_, ?_⟩ <;> exact rfl
            · exact rfl
            · conv_lhs => whnf
          case hC => decide
        case hj => rfl
    · sl_unfold_run_values; sl_open_pay; intro p
      apply xd_piece (f := loByte)
      case h0 => exact rfl
      case h1 => exact rfl
      case e0 => exact rfl
      case e1 => conv_lhs => whnf
      case hD =>
        apply isDec_lo
        case hm => rfl
        apply isWords_bitcast
        case hm => rfl
        case hx =>
          apply isTile_cast
          apply isTile_ld
          · intro p
            refine ⟨_, harg3.readAt_unread (Val := Elt Ideal) x2 _ _, ?_, ?_⟩ <;> exact rfl
          · exact rfl
          · conv_lhs => whnf
      case hf => exact .inl ⟨rfl, rfl⟩
      case hc => rfl
      case hs =>
        apply isSc_gather
        case hit => exact iota_at _
        case hb => decide
        case hb' => decide
        case hv =>
          apply isTile_pad
          case hw => rfl
          case hv =>
            apply isTile_ext
            apply isTile_cast
            apply isTile_ld
            · intro p
              refine ⟨_, harg4.readAt_unread (Val := Elt Ideal) x3 _ _, ?_, ?_⟩ <;> exact rfl
            · exact rfl
            · conv_lhs => whnf
          case hC => decide
        case hj => rfl
  iterate 8
    refine ⟨?_, ?_, ?_⟩
    · sl_unfold_run_values; sl_open_pay; intro p
      apply xd_piece (f := hiByte)
      case h0 => exact rfl
      case h1 => exact rfl
      case e0 => exact rfl
      case e1 => conv_lhs => whnf
      case hD =>
        apply isDec_hi
        case hm => rfl
        apply isWords_bitcast
        case hm => rfl
        case hx =>
          apply isTile_cast
          apply isTile_ld
          · intro p
            refine ⟨_, harg3.readAt_unread (Val := Elt Ideal) x2 _ _, ?_, ?_⟩ <;> exact rfl
          · exact rfl
          · conv_lhs => whnf
      case hf => exact .inr ⟨rfl, rfl⟩
      case hc => rfl
      case hs =>
        apply isSc_gather
        case hit => exact iota_at _
        case hb => decide
        case hb' => decide
        case hv =>
          apply isTile_ext
          apply isTile_cast
          apply isTile_ld
          · intro p
            refine ⟨_, harg4.readAt_unread (Val := Elt Ideal) x3 _ _, ?_, ?_⟩ <;> exact rfl
          · exact rfl
          · conv_lhs => whnf
        case hj => rfl
    · sl_unfold_run_values; sl_open_pay; intro p
      apply xd_piece (f := loByte)
      case h0 => exact rfl
      case h1 => exact rfl
      case e0 => exact rfl
      case e1 => conv_lhs => whnf
      case hD =>
        apply isDec_lo
        case hm => rfl
        apply isWords_bitcast
        case hm => rfl
        case hx =>
          apply isTile_cast
          apply isTile_ld
          · intro p
            refine ⟨_, harg3.readAt_unread (Val := Elt Ideal) x2 _ _, ?_, ?_⟩ <;> exact rfl
          · exact rfl
          · conv_lhs => whnf
      case hf => exact .inl ⟨rfl, rfl⟩
      case hc => rfl
      case hs =>
        apply isSc_gather
        case hit => exact iota_at _
        case hb => decide
        case hb' => decide
        case hv =>
          apply isTile_ext
          apply isTile_cast
          apply isTile_ld
          · intro p
            refine ⟨_, harg4.readAt_unread (Val := Elt Ideal) x3 _ _, ?_, ?_⟩ <;> exact rfl
          · exact rfl
          · conv_lhs => whnf
        case hj => rfl
  trivial

end Cert.Pieces

end
-- ==== Proof.ScalePieces.lean ====
module

public import proofs.«01_k».proof.Proof.LeftPieces

/-!
# The spread scales of the right operand

Every store of the first point's spread scales is a block of one array, `WSX`.
-/

@[expose] public section

set_option maxRecDepth 65536

noncomputable section

namespace Cert.Pieces

open Idealize.ShloMosaic Idealize.ShloMosaic.TcCoe
open Cert.KernelIdeal Cert.KernelIdeal.Gen Cert.Decode Cert.Tile

attribute [local irreducible] dynamicGather

set_option maxHeartbeats 4000000 in
theorem wsx_pieces (c : Dev nD) (arg6 : Memref sig .tc .vmem S360x180 .fp8e4m3) (harg6 : arg6.IsWhole) (x5 : Vec Ideal S360x180 .fp8e4m3) :
    View.PiecesOf (WSX x5 360 1536) (kernelRun0_A.sl.HS1_12 (F := Ideal) c arg6 harg6 x5) := by
  unfold kernelRun0_A.sl.HS1_12
  iterate 1
    refine ⟨?_, ?_⟩
    · sl_unfold_run_values; sl_open_pay; intro p
      apply wsx_piece
      case h0 => exact rfl
      case h1 => exact rfl
      case e1 => conv_lhs => whnf
      case hg =>
        apply isSc_where
        case hit => exact iota_at _
        case hC => decide
        case hg =>
          apply isSc_gather
          case hit => exact iota_at _
          case hb => decide
          case hb' => decide
          case hv =>
            apply isTile_pad
            case hw => rfl
            case hv =>
              apply isTile_ext
              apply isTile_ld
              · intro p
                refine ⟨_, harg6.readAt_unread (Val := Elt Ideal) x5 _ _, ?_, ?_⟩ <;> exact rfl
              · exact rfl
              · conv_lhs => whnf
            case hC => decide
          case hj => rfl
  iterate 3
    refine ⟨?_, ?_⟩
    · sl_unfold_run_values; sl_open_pay; intro p
      apply wsx_piece
      case h0 => exact rfl
      case h1 => exact rfl
      case e1 => conv_lhs => whnf
      case hg =>
        apply isSc_gather
        case hit => exact iota_at _
        case hb => decide
        case hb' => decide
        case hv =>
          apply isTile_pad
          case hw => rfl
          case hv =>
            apply isTile_ext
            apply isTile_ld
            · intro p
              refine ⟨_, harg6.readAt_unread (Val := Elt Ideal) x5 _ _, ?_, ?_⟩ <;> exact rfl
            · exact rfl
            · conv_lhs => whnf
          case hC => decide
        case hj => rfl
  iterate 8
    refine ⟨?_, ?_⟩
    · sl_unfold_run_values; sl_open_pay; intro p
      apply wsx_piece
      case h0 => exact rfl
      case h1 => exact rfl
      case e1 => conv_lhs => whnf
      case hg =>
        apply isSc_gather
        case hit => exact iota_at _
        case hb => decide
        case hb' => decide
        case hv =>
          apply isTile_ext
          apply isTile_ld
          · intro p
            refine ⟨_, harg6.readAt_unread (Val := Elt Ideal) x5 _ _, ?_, ?_⟩ <;> exact rfl
          · exact rfl
          · conv_lhs => whnf
        case hj => rfl
  trivial

end Cert.Pieces

end
-- ==== Proof.RightPiecesA.lean ====
module

public import proofs.«01_k».proof.Proof.LeftPieces

/-!
# The unpacked right operand, first point

Every store of the unpacked right operand is a block of one array, `WD`.
-/

@[expose] public section

set_option maxRecDepth 65536

noncomputable section

namespace Cert.Pieces

open Idealize.ShloMosaic Idealize.ShloMosaic.TcCoe
open Cert.KernelIdeal Cert.KernelIdeal.Gen Cert.Decode Cert.Tile

attribute [local irreducible] dynamicGather

set_option maxHeartbeats 40000000 in
theorem wd_pieces_A (c : Dev nD) (i : grid0.Coords) (arg5 : Memref sig .tc .vmem S384x1440 .i8) (harg5 : arg5.IsWhole) (arg6 : Memref sig .tc .vmem S360x180 .fp8e4m3) (harg6 : arg6.IsWhole)
    (arg9 : Memref sig .tc .vmem S360x1536 .f32) (x4 : Vec Ideal S384x1440 .i8) (x5 : Vec Ideal S360x180 .fp8e4m3) :
    View.PiecesOf (WD x4 (View.canon (kernelRun0_A.sl.HS1_12 (F := Ideal) c arg6 harg6 x5)) (24 * (i 0).val) 384 3072)
      (kernelRun0_A.sl.HS2_576 (F := Ideal) c i arg5 harg5 arg6 harg6 arg9 x4 x5) := by
  unfold kernelRun0_A.sl.HS2_576
  iterate 24
    refine ⟨?_, ?_, ?_⟩
    · sl_unfold_run_values; sl_open_pay; intro p
      apply wd_piece (b := 24 * (i 0).val) (f := hiByte)
      case y0 => exact rfl
      case y1 => exact rfl
      case hD =>
        apply isDec_hi
        case hm => rfl
        apply isWords_pad
        case hm => rfl
        case hw => rfl
        case hx =>
          apply isTile_ld
          · intro p
            refine ⟨_, harg5.readAt_unread (Val := Elt Ideal) x4 _ _, ?_, ?_⟩ <;> exact rfl
          · exact rfl
          · conv_lhs => whnf
        case hC => decide
        all_goals decide
      case hv =>
        apply isTile_ld
        · intro p
          refine ⟨_, congrFun (View.readAt_writes_junk_eq_canon (Val := Elt Ideal) _ _ _) _, ?_, ?_⟩ <;> exact rfl
        · first | exact congrFun (k0_off39_eq i 0) 0 | exact congrFun (k0_off39_eq i 1) 0 | exact congrFun (k0_off39_eq i 2) 0
        · conv_lhs => whnf
      case hf => exact .inr ⟨rfl, rfl⟩
      case hc => rfl
      case hc1 => rfl
      case hR => rfl
      case hb => simp <;> omega
      case hR0 => rfl
    · sl_unfold_run_values; sl_open_pay; intro p
      apply wd_piece (b := 24 * (i 0).val) (f := loByte)
      case y0 => exact rfl
      case y1 => exact rfl
      case hD =>
        apply isDec_lo
        case hm => rfl
        apply isWords_pad
        case hm => rfl
        case hw => rfl
        case hx =>
          apply isTile_ld
          · intro p
            refine ⟨_, harg5.readAt_unread (Val := Elt Ideal) x4 _ _, ?_, ?_⟩ <;> exact rfl
          · exact rfl
          · conv_lhs => whnf
        case hC => decide
        all_goals decide
      case hv =>
        apply isTile_ld
        · intro p
          refine ⟨_, congrFun (View.readAt_writes_junk_eq_canon (Val := Elt Ideal) _ _ _) _, ?_, ?_⟩ <;> exact rfl
        · first | exact congrFun (k0_off39_eq i 0) 0 | exact congrFun (k0_off39_eq i 1) 0 | exact congrFun (k0_off39_eq i 2) 0
        · conv_lhs => whnf
      case hf => exact .inl ⟨rfl, rfl⟩
      case hc => rfl
      case hc1 => rfl
      case hR => rfl
      case hb => simp <;> omega
      case hR0 => rfl
  iterate 264
    refine ⟨?_, ?_, ?_⟩
    · sl_unfold_run_values; sl_open_pay; intro p
      apply wd_piece (b := 24 * (i 0).val) (f := hiByte)
      case y0 => exact rfl
      case y1 => exact rfl
      case hD =>
        apply isDec_hi
        case hm => rfl
        apply isWords_bitcast
        case hm => rfl
        case hx =>
          apply isTile_ld
          · intro p
            refine ⟨_, harg5.readAt_unread (Val := Elt Ideal) x4 _ _, ?_, ?_⟩ <;> exact rfl
          · exact rfl
          · conv_lhs => whnf
      case hv =>
        apply isTile_ld
        · intro p
          refine ⟨_, congrFun (View.readAt_writes_junk_eq_canon (Val := Elt Ideal) _ _ _) _, ?_, ?_⟩ <;> exact rfl
        · first | exact congrFun (k0_off39_eq i 0) 0 | exact congrFun (k0_off39_eq i 1) 0 | exact congrFun (k0_off39_eq i 2) 0
        · conv_lhs => whnf
      case hf => exact .inr ⟨rfl, rfl⟩
      case hc => rfl
      case hc1 => rfl
      case hR => rfl
      case hb => simp <;> omega
      case hR0 => rfl
    · sl_unfold_run_values; sl_open_pay; intro p
      apply wd_piece (b := 24 * (i 0).val) (f := loByte)
      case y0 => exact rfl
      case y1 => exact rfl
      case hD =>
        apply isDec_lo
        case hm => rfl
        apply isWords_bitcast
        case hm => rfl
        case hx =>
          apply isTile_ld
          · intro p
            refine ⟨_, harg5.readAt_unread (Val := Elt Ideal) x4 _ _, ?_, ?_⟩ <;> exact rfl
          · exact rfl
          · conv_lhs => whnf
      case hv =>
        apply isTile_ld
        · intro p
          refine ⟨_, congrFun (View.readAt_writes_junk_eq_canon (Val := Elt Ideal) _ _ _) _, ?_, ?_⟩ <;> exact rfl
        · first | exact congrFun (k0_off39_eq i 0) 0 | exact congrFun (k0_off39_eq i 1) 0 | exact congrFun (k0_off39_eq i 2) 0
        · conv_lhs => whnf
      case hf => exact .inl ⟨rfl, rfl⟩
      case hc => rfl
      case hc1 => rfl
      case hR => rfl
      case hb => simp <;> omega
      case hR0 => rfl
  trivial

end Cert.Pieces

end
-- ==== Proof.RightPiecesB.lean ====
module

public import proofs.«01_k».proof.Proof.LeftPieces

/-!
# The unpacked right operand, other points

Every store of the unpacked right operand is a block of one array, `WD`.
-/

@[expose] public section

set_option maxRecDepth 65536

noncomputable section

namespace Cert.Pieces

open Idealize.ShloMosaic Idealize.ShloMosaic.TcCoe
open Cert.KernelIdeal Cert.KernelIdeal.Gen Cert.Decode Cert.Tile

attribute [local irreducible] dynamicGather

set_option maxHeartbeats 40000000 in
theorem wd_pieces_B (c : Dev nD) (i : grid0.Coords) (arg5 : Memref sig .tc .vmem S384x1440 .i8) (harg5 : arg5.IsWhole)
    (arg9 : Memref sig .tc .vmem S360x1536 .f32) (harg9 : arg9.IsWhole) (x4 : Vec Ideal S384x1440 .i8) (xs1 : Vec Ideal S360x1536 .f32) :
    View.PiecesOf (WD x4 xs1 (24 * (i 0).val) 384 3072)
      (kernelRun0_B.sl.HS2_576 (F := Ideal) c i arg5 harg5 arg9 harg9 x4 xs1) := by
  unfold kernelRun0_B.sl.HS2_576
  iterate 24
    refine ⟨?_, ?_, ?_⟩
    · sl_unfold_run_values; sl_open_pay; intro p
      apply wd_piece (b := 24 * (i 0).val) (f := hiByte)
      case y0 => exact rfl
      case y1 => exact rfl
      case hD =>
        apply isDec_hi
        case hm => rfl
        apply isWords_pad
        case hm => rfl
        case hw => rfl
        case hx =>
          apply isTile_ld
          · intro p
            refine ⟨_, harg5.readAt_unread (Val := Elt Ideal) x4 _ _, ?_, ?_⟩ <;> exact rfl
          · exact rfl
          · conv_lhs => whnf
        case hC => decide
        all_goals decide
      case hv =>
        apply isTile_ld
        · intro p
          refine ⟨_, harg9.readAt_unread (Val := Elt Ideal) xs1 _ _, ?_, ?_⟩ <;> exact rfl
        · first | exact congrFun (k0_off39_eq i 0) 0 | exact congrFun (k0_off39_eq i 1) 0 | exact congrFun (k0_off39_eq i 2) 0
        · conv_lhs => whnf
      case hf => exact .inr ⟨rfl, rfl⟩
      case hc => rfl
      case hc1 => rfl
      case hR => rfl
      case hb => simp <;> omega
      case hR0 => rfl
    · sl_unfold_run_values; sl_open_pay; intro p
      apply wd_piece (b := 24 * (i 0).val) (f := loByte)
      case y0 => exact rfl
      case y1 => exact rfl
      case hD =>
        apply isDec_lo
        case hm => rfl
        apply isWords_pad
        case hm => rfl
        case hw => rfl
        case hx =>
          apply isTile_ld
          · intro p
            refine ⟨_, harg5.readAt_unread (Val := Elt Ideal) x4 _ _, ?_, ?_⟩ <;> exact rfl
          · exact rfl
          · conv_lhs => whnf
        case hC => decide
        all_goals decide
      case hv =>
        apply isTile_ld
        · intro p
          refine ⟨_, harg9.readAt_unread (Val := Elt Ideal) xs1 _ _, ?_, ?_⟩ <;> exact rfl
        · first | exact congrFun (k0_off39_eq i 0) 0 | exact congrFun (k0_off39_eq i 1) 0 | exact congrFun (k0_off39_eq i 2) 0
        · conv_lhs => whnf
      case hf => exact .inl ⟨rfl, rfl⟩
      case hc => rfl
      case hc1 => rfl
      case hR => rfl
      case hb => simp <;> omega
      case hR0 => rfl
  iterate 264
    refine ⟨?_, ?_, ?_⟩
    · sl_unfold_run_values; sl_open_pay; intro p
      apply wd_piece (b := 24 * (i 0).val) (f := hiByte)
      case y0 => exact rfl
      case y1 => exact rfl
      case hD =>
        apply isDec_hi
        case hm => rfl
        apply isWords_bitcast
        case hm => rfl
        case hx =>
          apply isTile_ld
          · intro p
            refine ⟨_, harg5.readAt_unread (Val := Elt Ideal) x4 _ _, ?_, ?_⟩ <;> exact rfl
          · exact rfl
          · conv_lhs => whnf
      case hv =>
        apply isTile_ld
        · intro p
          refine ⟨_, harg9.readAt_unread (Val := Elt Ideal) xs1 _ _, ?_, ?_⟩ <;> exact rfl
        · first | exact congrFun (k0_off39_eq i 0) 0 | exact congrFun (k0_off39_eq i 1) 0 | exact congrFun (k0_off39_eq i 2) 0
        · conv_lhs => whnf
      case hf => exact .inr ⟨rfl, rfl⟩
      case hc => rfl
      case hc1 => rfl
      case hR => rfl
      case hb => simp <;> omega
      case hR0 => rfl
    · sl_unfold_run_values; sl_open_pay; intro p
      apply wd_piece (b := 24 * (i 0).val) (f := loByte)
      case y0 => exact rfl
      case y1 => exact rfl
      case hD =>
        apply isDec_lo
        case hm => rfl
        apply isWords_bitcast
        case hm => rfl
        case hx =>
          apply isTile_ld
          · intro p
            refine ⟨_, harg5.readAt_unread (Val := Elt Ideal) x4 _ _, ?_, ?_⟩ <;> exact rfl
          · exact rfl
          · conv_lhs => whnf
      case hv =>
        apply isTile_ld
        · intro p
          refine ⟨_, harg9.readAt_unread (Val := Elt Ideal) xs1 _ _, ?_, ?_⟩ <;> exact rfl
        · first | exact congrFun (k0_off39_eq i 0) 0 | exact congrFun (k0_off39_eq i 1) 0 | exact congrFun (k0_off39_eq i 2) 0
        · conv_lhs => whnf
      case hf => exact .inl ⟨rfl, rfl⟩
      case hc => rfl
      case hc1 => rfl
      case hR => rfl
      case hb => simp <;> omega
      case hR0 => rfl
  trivial

end Cert.Pieces

end
-- ==== Proof.Point.lean ====
module

public import proofs.«01_k».proof.Proof.LeftPieces
public import proofs.«01_k».proof.Proof.ScalePieces
public import proofs.«01_k».proof.Proof.RightPiecesA
public import proofs.«01_k».proof.Proof.RightPiecesB

/-!
# What one grid point leaves

The stores of a point are blocks of whole arrays: the unpacked operands, the spread scales and, last, the scaled
product. Read back, the buffers hold those arrays.
-/

@[expose] public section

set_option maxRecDepth 65536

noncomputable section

namespace Cert.Point

open Idealize.ShloMosaic Idealize.ShloMosaic.TcCoe
open Cert.KernelIdeal Cert.KernelIdeal.Gen Cert.Decode Cert.Tile Cert.Pieces

attribute [local irreducible] dynamicGather

/-- The scaled product of the unpacked operands. -/
def OUT (xd : S1536x3072.Idx → EReal) (wd : S384x3072.Idx → EReal) (xg : S2.Idx → EReal) (wg : S1.Idx → EReal) : S1536x384.Idx → EReal := fun y =>
  (∑ k : Fin 3072, xd (ix2 (y 0) k) * wd (ix2 (y 1) k)) * xg (ix1 ⟨(y 0).val / 128 % 2, by omega⟩) * wg (ix1 0)

theorem acc_at (xd : FVec Ideal S1536x3072 .bf16) (wd : FVec Ideal S384x3072 .bf16) (r : Fin 1536) (n : Fin 384) :
    k0_pay1089 (F := Ideal) xd wd (ix2 r n) = ∑ k : Fin 3072, xd (ix2 r k) * wd (ix2 n k) := by
  pointwise [k0_pay1089]

/-- One store of the output: 128 rows of the product, scaled by the rows' half and by the right operand's scale. -/
theorem out_piece {R o0 o1 : ℕ} {xd : S1536x3072.Idx → EReal} {wd : S384x3072.Idx → EReal} {xg : S2.Idx → EReal} {wg : S1.Idx → EReal}
    {a b : EReal} {acc : FVec Ideal S1536x384 .f32} {s : FVec Ideal S128x384 .f32} (hacc : acc = k0_pay1089 (F := Ideal) xd wd)
    (h : S1536x384.Slices ![R, 0] S128x384) (hs : s = extractStridedSlice S128x384 ![R, 0] acc h) (h5 : FTy.bf16.bits < FTy.f32.bits) {p : S128x384.Idx} {y : S1536x384.Idx}
    (y0 : (y 0).val = o0 + 1 * (p 0).val) (y1 : (y 1).val = o1 + 1 * (p 1).val) (e0 : o0 = R) (e1 : o1 = 0) (hR : R % 128 = 0)
    (hb : ∃ z, b = wg z) (ha : ∃ z : S2.Idx, a = xg z ∧ (z 0).val = R / 128 % 2) :
    truncf (F := Ideal) .bf16 (mulf (F := Ideal) (φ := .f32) (mulf (F := Ideal) (φ := .f32) s (broadcast S128x384 a))
      (broadcast S128x384 b)) h5 p = OUT xd wd xg wg y := by
  subst e0 e1 hs hacc
  obtain ⟨r, n, rfl⟩ : ∃ (r : Fin 128) (n : Fin 384), p = ix2 r n := ⟨p 0, p 1, eq_ix2 p⟩
  obtain ⟨r', n', rfl⟩ : ∃ (r : Fin 1536) (n : Fin 384), y = ix2 r n := ⟨y 0, y 1, eq_ix2 y⟩
  obtain ⟨zb, rfl⟩ := hb
  obtain ⟨za, rfl, hza⟩ := ha
  have y0 : r'.val = o0 + 1 * r.val := y0
  have y1 : n'.val = 0 + 1 * n.val := y1
  have hr := r.isLt
  have e : extractStridedSlice S128x384 ![o0, 0] (k0_pay1089 (F := Ideal) xd wd) h (ix2 r n) = k0_pay1089 (F := Ideal) xd wd (ix2 r' n') := by
    refine extractStridedSlice_apply _ _ _ _ _ fun b => ?_
    match b with
    | ⟨0, _⟩ => exact y0.trans (by show o0 + 1 * r.val = o0 + r.val; omega)
    | ⟨1, _⟩ => exact y1.trans (by show 0 + 1 * n.val = 0 + n.val; omega)
  have ea : za = ix1 ⟨r'.val / 128 % 2, by omega⟩ := funext fun b => by
    match b with
    | ⟨0, _⟩ => exact Fin.ext (by show (za 0).val = r'.val / 128 % 2; omega)
  have eb : zb = ix1 0 := funext fun b => by
    match b with
    | ⟨0, _⟩ => exact Fin.ext (by have : (zb 0).val < 1 := (zb 0).isLt; show (zb 0).val = 0; omega)
  show extractStridedSlice S128x384 ![o0, 0] (k0_pay1089 (F := Ideal) xd wd) h (ix2 r n) * xg za * wg zb = _
  rw [e, acc_at, ea, eb]
  rfl

theorem piecesOf_append {s : Shape} {e : EltTy} {Val : EltTy → Type} {G : s.Idx → Val e} : ∀ {L L' : List (View.Piece Val s e)},
    View.PiecesOf G L → View.PiecesOf G L' → View.PiecesOf G (L ++ L')
  | [], _, _, h => h
  | _ :: _, _, h, h' => ⟨h.1, piecesOf_append h.2 h'⟩

/-- Covering stores that are blocks of an array leave the array. -/
theorem canon_of_pieces {s : Shape} {e : EltTy} {G : s.Idx → Elt Ideal e} {L : List (View.Piece (Elt Ideal) s e)} (h : View.PiecesOf G L)
    (hc : ∀ y, ∃ p ∈ L, y ∈ p.1.set) : View.canon L = G :=
  funext fun y => View.canon_apply_of_pieces G L h.mem y (hc y)

/-- A load of a whole buffer reads the stores. -/
theorem readCov_whole {κ : Kind} {sp : Space} {m n : ℕ} {e : EltTy} (v : View sig κ sp ⟨2, ![m, n]⟩ e) (L : List (View.Piece (Elt Ideal) ⟨2, ![m, n]⟩ e))
    (h : ∀ a, (![0, 0] : Fin 2 → ℕ) a + (⟨2, ![m, n]⟩ : Shape).size a ≤ (⟨2, ![m, n]⟩ : Shape).size a) :
    v.readCov L (Rect.unit (s := ⟨2, ![m, n]⟩) ![0, 0] (⟨2, ![m, n]⟩ : Shape).size h).toLoadRect = View.canon L := by
  rw [View.readCov_eq_canon']
  refine funext fun j => congrArg _ (funext fun b => ?_)
  match b with
  | ⟨0, _⟩ => exact Fin.ext (by show 0 + 1 * (j 0).val = (j 0).val; omega)
  | ⟨1, _⟩ => exact Fin.ext (by show 0 + 1 * (j 1).val = (j 1).val; omega)

/-- A load of a whole buffer reads its contents. -/
theorem readAt_whole {κ : Kind} {sp : Space} {m n : ℕ} {e : EltTy} {a : Memref sig κ sp ⟨2, ![m, n]⟩ e} (ha : a.IsWhole) (x : Vec Ideal ⟨2, ![m, n]⟩ e)
    (h : ∀ a, (![0, 0] : Fin 2 → ℕ) a + (⟨2, ![m, n]⟩ : Shape).size a ≤ (⟨2, ![m, n]⟩ : Shape).size a) :
    a.view.readAt (Elt Ideal) (Rect.unit (s := ⟨2, ![m, n]⟩) ![0, 0] (⟨2, ![m, n]⟩ : Shape).size h).toLoadRect (ha.unread x) = x := by
  refine funext fun j => (ha.readAt_unread (Val := Elt Ideal) x _ _).trans (congrArg x (funext fun b => ?_))
  match b with
  | ⟨0, _⟩ => exact Fin.ext (by show 0 + 1 * (j 0).val = (j 0).val; omega)
  | ⟨1, _⟩ => exact Fin.ext (by show 0 + 1 * (j 1).val = (j 1).val; omega)

section
variable (c : Dev nD) (i : grid0.Coords) (arg1 : Memref sig .tc .smem S2 .f32) (harg1 : arg1.IsWhole) (arg2 : Memref sig .tc .smem S1 .f32) (harg2 : arg2.IsWhole) (arg3 : Memref sig .tc .vmem S1536x1440 .i8) (harg3 : arg3.IsWhole) (arg4 : Memref sig .tc .vmem S1536x180 .fp8e4m3) (harg4 : arg4.IsWhole) (arg5 : Memref sig .tc .vmem S384x1440 .i8) (harg5 : arg5.IsWhole) (arg6 : Memref sig .tc .vmem S360x180 .fp8e4m3) (harg6 : arg6.IsWhole) (arg7 : Memref sig .tc .vmem S1536x384 .bf16) (harg7 : arg7.IsWhole) (arg8 : Memref sig .tc .vmem S1536x3072 .bf16) (harg8 : arg8.IsWhole) (arg9 : Memref sig .tc .vmem S360x1536 .f32) (harg9 : arg9.IsWhole) (arg10 : Memref sig .tc .vmem S384x3072 .bf16) (harg10 : arg10.IsWhole)
  (x0 : Vec Ideal S2 .f32) (x1 : Vec Ideal S1 .f32) (x2 : Vec Ideal S1536x1440 .i8) (x3 : Vec Ideal S1536x180 .fp8e4m3) (x4 : Vec Ideal S384x1440 .i8) (x5 : Vec Ideal S360x180 .fp8e4m3)
include c i arg1 harg1 arg2 harg2 arg3 harg3 arg4 harg4 arg5 harg5 arg6 harg6 arg7 harg7 arg8 harg8 arg9 harg9 arg10 harg10 x0 x1 x2 x3 x4 x5

/-- The first point's loop, run to its end, stores blocks of the unpacked left operand. -/
theorem loop_pieces (hc0 : cond0_0 i) : ∀ n, n ≤ Scf.trips k0_t1_loop.lb k0_t1_loop.ub k0_t1_loop.st →
    View.PiecesOf (XD x2 x3 1536 3072) (pb_k0_t1 (F := Ideal) Variants.none c none i arg1 harg1 arg2 harg2 arg3 harg3 arg4 harg4 arg5 harg5 arg6 harg6 arg7 harg7 arg8 harg8 arg9 harg9 arg10 harg10 hc0 (harg3.unread x2) (harg4.unread x3) n)
  | 0, _ => trivial
  | n + 1, hn => by
    have e := pb_k0_t1_succ (F := Ideal) Variants.none c none i arg1 harg1 arg2 harg2 arg3 harg3 arg4 harg4 arg5 harg5 arg6 harg6 arg7 harg7 arg8 harg8 arg9 harg9 arg10 harg10 hc0 (harg3.unread x2) (harg4.unread x3) ⟨n, hn⟩
    rw [show pb_k0_t1 (F := Ideal) Variants.none c none i arg1 harg1 arg2 harg2 arg3 harg3 arg4 harg4 arg5 harg5 arg6 harg6 arg7 harg7 arg8 harg8 arg9 harg9 arg10 harg10 hc0 (harg3.unread x2) (harg4.unread x3) (n + 1) = _ from e]
    exact piecesOf_append (trip_pieces c i arg1 harg1 arg2 harg2 arg3 harg3 arg4 harg4 arg5 harg5 arg6 harg6 arg7 harg7 arg8 harg8 arg9 harg9 arg10 harg10 hc0 x2 x3 ⟨n, hn⟩) (loop_pieces hc0 n (Nat.le_of_succ_le hn))

theorem canon_xd (hc0 : cond0_0 i) : View.canon (pb_k0_t1 (F := Ideal) Variants.none c none i arg1 harg1 arg2 harg2 arg3 harg3 arg4 harg4 arg5 harg5 arg6 harg6 arg7 harg7 arg8 harg8 arg9 harg9 arg10 harg10 hc0 (harg3.unread x2) (harg4.unread x3) (Scf.trips k0_t1_loop.lb k0_t1_loop.ub k0_t1_loop.st)) = XD x2 x3 1536 3072 :=
  canon_of_pieces (loop_pieces c i arg1 harg1 arg2 harg2 arg3 harg3 arg4 harg4 arg5 harg5 arg6 harg6 arg7 harg7 arg8 harg8 arg9 harg9 arg10 harg10 x0 x1 x2 x3 x4 x5 hc0 _ le_rfl) fun y => scover0_A_0 c i arg1 harg1 arg2 harg2 arg3 harg3 arg4 harg4 arg5 harg5 arg6 harg6 arg7 harg7 arg8 harg8 arg9 harg9 arg10 harg10 hc0 x0 x1 x2 x3 x4 x5 y

theorem canon_wsx (hc0 : cond0_0 i) : View.canon (kernelRun0_A.sl.HS1_12 (F := Ideal) c arg6 harg6 x5) = WSX x5 360 1536 :=
  canon_of_pieces (wsx_pieces c arg6 harg6 x5) fun y => scover0_A_1 c i arg1 harg1 arg2 harg2 arg3 harg3 arg4 harg4 arg5 harg5 arg6 harg6 arg7 harg7 arg8 harg8 arg9 harg9 arg10 harg10 hc0 x0 x1 x2 x3 x4 x5 y

theorem canon_wd_A (hc0 : cond0_0 i) : View.canon (kernelRun0_A.sl.HS2_576 (F := Ideal) c i arg5 harg5 arg6 harg6 arg9 x4 x5)
    = WD x4 (WSX x5 360 1536) (24 * (i 0).val) 384 3072 := by
  rw [canon_of_pieces (wd_pieces_A c i arg5 harg5 arg6 harg6 arg9 x4 x5) (View.cover_of_tiledL (s := S384x3072) _ S16x128.size (by sl_kernel_rfl)),
    canon_wsx c i arg1 harg1 arg2 harg2 arg3 harg3 arg4 harg4 arg5 harg5 arg6 harg6 arg7 harg7 arg8 harg8 arg9 harg9 arg10 harg10 x0 x1 x2 x3 x4 x5 hc0]

theorem canon_wd_B (xs1 : Vec Ideal S360x1536 .f32) : View.canon (kernelRun0_B.sl.HS2_576 (F := Ideal) c i arg5 harg5 arg9 harg9 x4 xs1)
    = WD x4 xs1 (24 * (i 0).val) 384 3072 :=
  canon_of_pieces (wd_pieces_B c i arg5 harg5 arg9 harg9 x4 xs1) (View.cover_of_tiledL (s := S384x3072) _ S16x128.size (by sl_kernel_rfl))

theorem out_pieces_A (hc0 : cond0_0 i) : View.PiecesOf (OUT (XD x2 x3 1536 3072) (WD x4 (WSX x5 360 1536) (24 * (i 0).val) 384 3072) x0 x1)
    (kernelRun0_A (F := Ideal) c i arg1 harg1 arg2 harg2 arg3 harg3 arg4 harg4 arg5 harg5 arg6 harg6 arg7 harg7 arg8 harg8 arg9 harg9 arg10 harg10 hc0 x0 x1 x2 x3 x4 x5).1 := by
  have hacc : kernelRun0_A.sl.r_177 (F := Ideal) c i arg1 harg1 arg2 harg2 arg3 harg3 arg4 harg4 arg5 harg5 arg6 harg6 arg7 harg7 arg8 harg8 arg9 harg9 arg10 harg10 hc0 x2 x3 x4 x5
      = k0_pay1089 (F := Ideal) (XD x2 x3 1536 3072) (WD x4 (WSX x5 360 1536) (24 * (i 0).val) 384 3072) := by
    unfold kernelRun0_A.sl.r_177 kernelRun0_A.sl.v5455
    exact congrArg₂ _ ((readCov_whole _ _ _).trans (canon_xd c i arg1 harg1 arg2 harg2 arg3 harg3 arg4 harg4 arg5 harg5 arg6 harg6 arg7 harg7 arg8 harg8 arg9 harg9 arg10 harg10 x0 x1 x2 x3 x4 x5 hc0))
      ((readCov_whole _ _ _).trans (canon_wd_A c i arg1 harg1 arg2 harg2 arg3 harg3 arg4 harg4 arg5 harg5 arg6 harg6 arg7 harg7 arg8 harg8 arg9 harg9 arg10 harg10 x0 x1 x2 x3 x4 x5 hc0))
  iterate 12
    apply And.intro
    · intro p
      apply out_piece
      case hs => first | exact rfl | (unfold kernelRun0_A.sl.r_178 k0_pay1093; exact rfl) | (unfold kernelRun0_A.sl.r_179 k0_pay1099; exact rfl)
      case hacc => exact hacc
      case y0 => exact rfl
      case y1 => exact rfl
      case e0 => rfl
      case e1 => rfl
      case hR => rfl
      case hb => exact ⟨_, harg2.readAt_unread (Val := Elt Ideal) x1 _ _⟩
      case ha =>
        refine ⟨_, harg1.readAt_unread (Val := Elt Ideal) x0 _ _, ?_⟩
        exact rfl
  trivial

theorem out_pieces_B (hc0 : ¬cond0_0 i) (xs0 : Vec Ideal S1536x3072 .bf16) (xs1 : Vec Ideal S360x1536 .f32) :
    View.PiecesOf (OUT xs0 (WD x4 xs1 (24 * (i 0).val) 384 3072) x0 x1)
    (kernelRun0_B (F := Ideal) c i arg1 harg1 arg2 harg2 arg3 harg3 arg4 harg4 arg5 harg5 arg6 harg6 arg7 harg7 arg8 harg8 arg9 harg9 arg10 harg10 hc0 x0 x1 x2 x3 x4 x5 xs0 xs1).1 := by
  have hacc : kernelRun0_B.sl.r_172 (F := Ideal) c i arg5 harg5 arg8 harg8 arg9 harg9 arg10 x4 xs0 xs1
      = k0_pay1089 (F := Ideal) xs0 (WD x4 xs1 (24 * (i 0).val) 384 3072) := by
    unfold kernelRun0_B.sl.r_172 kernelRun0_B.sl.v5455
    exact congrArg₂ _ (readAt_whole harg8 xs0 _)
      ((readCov_whole _ _ _).trans (canon_wd_B c i arg1 harg1 arg2 harg2 arg3 harg3 arg4 harg4 arg5 harg5 arg6 harg6 arg7 harg7 arg8 harg8 arg9 harg9 arg10 harg10 x0 x1 x2 x3 x4 x5 xs1))
  iterate 12
    apply And.intro
    · intro p
      apply out_piece
      case hs => first | exact rfl | (unfold kernelRun0_B.sl.r_173 k0_pay1093; exact rfl) | (unfold kernelRun0_B.sl.r_174 k0_pay1099; exact rfl)
      case hacc => exact hacc
      case y0 => exact rfl
      case y1 => exact rfl
      case e0 => rfl
      case e1 => rfl
      case hR => rfl
      case hb => exact ⟨_, harg2.readAt_unread (Val := Elt Ideal) x1 _ _⟩
      case ha =>
        refine ⟨_, harg1.readAt_unread (Val := Elt Ideal) x0 _ _, ?_⟩
        exact rfl
  trivial

/-- What the first point leaves in the output. -/
theorem out_A (hc0 : cond0_0 i) : out0_A_6 (F := Ideal) c i arg1 harg1 arg2 harg2 arg3 harg3 arg4 harg4 arg5 harg5 arg6 harg6 arg7 harg7 arg8 harg8 arg9 harg9 arg10 harg10 hc0 x0 x1 x2 x3 x4 x5
    = OUT (XD x2 x3 1536 3072) (WD x4 (WSX x5 360 1536) (24 * (i 0).val) 384 3072) x0 x1 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  exact canon_of_pieces (out_pieces_A c i arg1 harg1 arg2 harg2 arg3 harg3 arg4 harg4 arg5 harg5 arg6 harg6 arg7 harg7 arg8 harg8 arg9 harg9 arg10 harg10 x0 x1 x2 x3 x4 x5 hc0) (cover0_A_6 c i arg1 harg1 arg2 harg2 arg3 harg3 arg4 harg4 arg5 harg5 arg6 harg6 arg7 harg7 arg8 harg8 arg9 harg9 arg10 harg10 hc0 x0 x1 x2 x3 x4 x5)

/-- The first point leaves the unpacked left operand. -/
theorem xd_A (hc0 : cond0_0 i) : sout0_A_0 (F := Ideal) c i arg1 harg1 arg2 harg2 arg3 harg3 arg4 harg4 arg5 harg5 arg6 harg6 arg7 harg7 arg8 harg8 arg9 harg9 arg10 harg10 hc0 x0 x1 x2 x3 x4 x5 = XD x2 x3 1536 3072 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5)]
  exact canon_xd c i arg1 harg1 arg2 harg2 arg3 harg3 arg4 harg4 arg5 harg5 arg6 harg6 arg7 harg7 arg8 harg8 arg9 harg9 arg10 harg10 x0 x1 x2 x3 x4 x5 hc0

/-- The first point leaves the spread scales. -/
theorem wsx_A (hc0 : cond0_0 i) : sout0_A_1 (F := Ideal) c i arg1 harg1 arg2 harg2 arg3 harg3 arg4 harg4 arg5 harg5 arg6 harg6 arg7 harg7 arg8 harg8 arg9 harg9 arg10 harg10 hc0 x0 x1 x2 x3 x4 x5 = WSX x5 360 1536 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5)]
  exact canon_wsx c i arg1 harg1 arg2 harg2 arg3 harg3 arg4 harg4 arg5 harg5 arg6 harg6 arg7 harg7 arg8 harg8 arg9 harg9 arg10 harg10 x0 x1 x2 x3 x4 x5 hc0

/-- What a later point leaves in the output, over what the point before left in the scratch. -/
theorem out_B (hc0 : ¬cond0_0 i) (xs0 : Vec Ideal S1536x3072 .bf16) (xs1 : Vec Ideal S360x1536 .f32) :
    out0_B_6 (F := Ideal) c i arg1 harg1 arg2 harg2 arg3 harg3 arg4 harg4 arg5 harg5 arg6 harg6 arg7 harg7 arg8 harg8 arg9 harg9 arg10 harg10 hc0 x0 x1 x2 x3 x4 x5 xs0 xs1 = OUT xs0 (WD x4 xs1 (24 * (i 0).val) 384 3072) x0 x1 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xs0 xs1)]
  exact canon_of_pieces (out_pieces_B c i arg1 harg1 arg2 harg2 arg3 harg3 arg4 harg4 arg5 harg5 arg6 harg6 arg7 harg7 arg8 harg8 arg9 harg9 arg10 harg10 x0 x1 x2 x3 x4 x5 hc0 xs0 xs1) (cover0_B_6 c i arg1 harg1 arg2 harg2 arg3 harg3 arg4 harg4 arg5 harg5 arg6 harg6 arg7 harg7 arg8 harg8 arg9 harg9 arg10 harg10 hc0 x0 x1 x2 x3 x4 x5 xs0 xs1)

end

end Cert.Point

end
-- ==== Proof.Array.lean ====
module

public import proofs.«01_k».proof.Proof.Point
public import proofs.«01_k».proof.Proof.Gen.KernelIdeal.Run
public import Idealize.ShloMosaic.Lib.Pipeline.ValueKit.Geometry

/-!
# The kernel's output array

The first point unpacks the left operand and spreads the right operand's scales; every later point finds both as the
first left them. So point `t` leaves the columns `384 * t` and on of one array, and the points' blocks make it up.
-/

@[expose] public section

set_option maxRecDepth 16384

noncomputable section

namespace Cert.KernelArray

open Idealize.ShloMosaic Idealize.ShloMosaic.TcCoe
open Cert.KernelIdeal Cert.KernelIdeal.Gen Cert.Decode Cert.Tile Cert.Point

variable (m : (ℓ : Loc nD τ sig) → Buf (Elt Ideal) ℓ)

/-- The whole product, of codes, scales and row and tensor scales. -/
def G (xc : S1536x1440.Idx → BitVec 8) (xs : S1536x180.Idx → EReal) (wc : S5760x1440.Idx → BitVec 8) (ws : S360x180.Idx → EReal)
    (xg : S2.Idx → EReal) (wg : S1.Idx → EReal) : S1536x5760.Idx → EReal := fun y =>
  (∑ k : Fin 3072, XD xc xs 1536 3072 (ix2 (y 0) k) * WD wc (WSX ws 360 1536) 0 5760 3072 (ix2 (y 1) k))
    * xg (ix1 ⟨(y 0).val / 128 % 2, by omega⟩) * wg (ix1 0)

theorem coords_val : ∀ t : Fin cfg0.N, (grid0.coords t 0).val = t.val := by decide +kernel

theorem index0 : ∀ t : Fin grid0.N, win0_0.index t = ![0] := by decide +kernel
theorem index1 : ∀ t : Fin grid0.N, win0_1.index t = ![0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![0, t.val] := by decide +kernel

theorem blk0 (c : Dev nD) (t : Fin cfg0.N) : iblk m c 0 t = V m c main_arg2 := by
  funext y; blk_simp [iblk]; refine congrArg _ ?_; blk_ext [index0]

theorem blk1 (c : Dev nD) (t : Fin cfg0.N) : iblk m c 1 t = V m c main_arg5 := by
  funext y; blk_simp [iblk]; refine congrArg _ ?_; blk_ext [index1]

theorem blk2 (c : Dev nD) (t : Fin cfg0.N) : iblk m c 2 t = V m c main_v0 := by
  funext y; blk_simp [iblk]; refine congrArg _ ?_; blk_ext [index2]

theorem blk3 (c : Dev nD) (t : Fin cfg0.N) : iblk m c 3 t = V m c main_v1 := by
  funext y; blk_simp [iblk]; refine congrArg _ ?_; blk_ext [index3]

theorem blk5 (c : Dev nD) (t : Fin cfg0.N) : iblk m c 5 t = V m c main_arg4 := by
  funext y; blk_simp [iblk]; refine congrArg _ ?_; blk_ext [index5]

/-- Row `n` of block `t` of the right operand's codes is row `384 * t + n` of the whole. -/
theorem blk4 (c : Dev nD) (t : Fin cfg0.N) (n : Fin 384) (j : Fin 1440) (h : 384 * t.val + n.val < 5760) :
    iblk m c 4 t (ix2 n j) = V m c main_arg3 (ix2 ⟨384 * t.val + n.val, h⟩ j) := by
  blk_simp [iblk]; refine congrArg _ ?_; blk_ext [index4]

/-- A block of the unpacked right operand is that part of the whole. -/
theorem wd_block (c : Dev nD) (t : Fin cfg0.N) (S : S360x1536.Idx → EReal) (n : Fin 384) (k : Fin 3072) (h : 384 * t.val + n.val < 5760) :
    WD (iblk m c 4 t) S (24 * t.val) 384 3072 (ix2 n k) = WD (V m c main_arg3) S 0 5760 3072 (ix2 ⟨384 * t.val + n.val, h⟩ k) := by
  show code (iblk m c 4 t) n.val k.val * at2 0 S (24 * t.val + n.val / 16) _ = code (V m c main_arg3) (384 * t.val + n.val) k.val * at2 0 S (0 + (384 * t.val + n.val) / 16) _
  rw [show 24 * t.val + n.val / 16 = 0 + (384 * t.val + n.val) / 16 by omega]
  have key : ∀ j, at2 0#8 (iblk m c 4 t : S384x1440.Idx → BitVec 8) n.val j = at2 0#8 (V m c main_arg3 : S5760x1440.Idx → BitVec 8) (384 * t.val + n.val) j := fun j => by
    by_cases hj : j < 1440
    · exact (at2_of_lt _ _ n.isLt hj).trans ((blk4 m c t n ⟨j, hj⟩ h).trans (at2_of_lt _ _ h hj).symm)
    · rw [at2_of_le _ _ (not_lt.mp hj), at2_of_le _ _ (not_lt.mp hj)]
  unfold code
  rw [key]
  rfl

/-- The scratch after any point: what the first point stored. -/
theorem scratch_eq (c : Dev nD) : ∀ (n : ℕ) (h : n < cfg0.N), (outsAt0 m c n h).2.1 = XD (V m c main_v0) (V m c main_v1) 1536 3072
    ∧ (outsAt0 m c n h).2.2 = WSX (V m c main_arg4) 360 1536
  | 0, h => by
    have e := outsAt0_A m c ⟨0, h⟩ rfl
    rw [show outsAt0 m c 0 h = _ from e]
    dsimp only
    rw [xd_A, wsx_A, blk2, blk3, blk5]
    exact ⟨rfl, rfl⟩
  | n + 1, h => by
    have hN : cfg0.N = 15 := N_0
    have hB : ¬(⟨n + 1, h⟩ : Fin cfg0.N).val % 15 = 0 := by dsimp only; omega
    have e := outsAt0_B m c ⟨n + 1, h⟩ hB
    rw [show outsAt0 m c (n + 1) h = _ from e]
    dsimp only
    unfold sout0_B_0 sout0_B_1
    exact scratch_eq c n _

/-- What point `t` leaves in the output. -/
theorem out_eq (c : Dev nD) (t : Fin cfg0.N) : (outsAt0 m c t.val t.isLt).1
    = OUT (XD (V m c main_v0) (V m c main_v1) 1536 3072) (WD (iblk m c 4 t) (WSX (V m c main_arg4) 360 1536) (24 * t.val) 384 3072)
      (V m c main_arg2) (V m c main_arg5) := by
  by_cases h0 : t.val % 15 = 0
  · rw [outsAt0_A m c t h0]
    dsimp only
    rw [out_A, blk0, blk1, blk2, blk3, blk5, coords_val]
  · rw [outsAt0_B m c t h0]
    dsimp only
    rw [out_B, blk0, blk1, (scratch_eq m c _ _).1, (scratch_eq m c _ _).2, coords_val]

theorem array_eq (c : Dev nD) : Cert.KernelIdeal.Value.reg_main_v2 m c
    = G (V m c main_v0) (V m c main_v1) (V m c main_arg3) (V m c main_arg4) (V m c main_arg2) (V m c main_arg5) := by
  unfold Cert.KernelIdeal.Value.reg_main_v2
  refine (dats m 0 c).arrAt_eq_of_covers 6 _ (by decide +kernel) fun t hf y => ?_
  blk_simp
  rw [after0_6, out_eq]
  obtain ⟨r, n, rfl⟩ : ∃ (r : Fin 1536) (n : Fin 384), y = ix2 r n := ⟨y 0, y 1, eq_ix2 y⟩
  have hN : cfg0.N = 15 := N_0
  have ht : t.val < cfg0.N := t.isLt
  have hn := n.isLt
  have h : 384 * t.val + n.val < 5760 := by omega
  have e : ((cfg0.win 6).blk t).view.emb (ix2 r n) = (ix2 r ⟨384 * t.val + n.val, h⟩ : S1536x5760.Idx) := by blk_ext [index6]
  refine Eq.trans ?_ (congrArg (G _ _ _ _ _ _) e).symm
  unfold OUT G
  refine congrArg₂ _ (congrArg₂ _ (Finset.sum_congr rfl fun k _ => congrArg₂ _ rfl (wd_block m c t _ n k h)) rfl) rfl

end Cert.KernelArray

end
-- ==== Proof.Sums.lean ====
module

public import proofs.«01_k».proof.Proof.Tile

/-!
# The kernel's dot product as the reference's two

The kernel lays the codes of a row out in tiles of 256: the low codes of 128 bytes, then their high codes, the last
tile padded with zero bytes. The dot product over that order is the one over the low codes plus the one over the high.
-/

@[expose] public section

noncomputable section

namespace Cert.Sums

open Idealize.ShloMosaic Cert.Decode Cert.Tile

/-- A sum over tiles of 256: over their first halves and over their second halves. -/
theorem sum_tiles (f : ℕ → EReal) : ∀ n : ℕ, ∑ k ∈ Finset.range (256 * n), f k
    = ∑ j ∈ Finset.range (128 * n), f (256 * (j / 128) + j % 128) + ∑ j ∈ Finset.range (128 * n), f (256 * (j / 128) + 128 + j % 128)
  | 0 => by simp
  | n + 1 => by
    have e : ∀ x ∈ Finset.range 128, (128 * n + x) / 128 = n ∧ (128 * n + x) % 128 = x := fun x hx => by
      have := Finset.mem_range.mp hx; omega
    rw [show 256 * (n + 1) = 256 * n + (128 + 128) by omega, show 128 * (n + 1) = 128 * n + 128 by omega, Finset.sum_range_add, Finset.sum_range_add,
      Finset.sum_range_add, Finset.sum_range_add, sum_tiles f n,
      Finset.sum_congr rfl (fun x hx => by rw [(e x hx).1, (e x hx).2] : ∀ x ∈ Finset.range 128, f (256 * ((128 * n + x) / 128) + (128 * n + x) % 128) = f (256 * n + x)),
      Finset.sum_congr rfl (fun x hx => by rw [(e x hx).1, (e x hx).2] : ∀ x ∈ Finset.range 128, f (256 * ((128 * n + x) / 128) + 128 + (128 * n + x) % 128) = f (256 * n + 128 + x))]
    simp only [Nat.add_assoc]
    ac_rfl

/-- A sum whose tail is zero. -/
theorem sum_tail (f : ℕ → EReal) (h : ∀ j, 1440 ≤ j → f j = 0) : ∑ j ∈ Finset.range (128 * 12), f j = ∑ j : Fin 1440, f j.val := by
  rw [show 128 * 12 = 1440 + 96 by norm_num, Finset.sum_range_add, Finset.sum_eq_zero (fun x _ => h _ (Nat.le_add_right _ _)), add_zero, Finset.sum_range]

variable (xc : (⟨2, ![1536, 1440]⟩ : Shape).Idx → BitVec 8) (xs : (⟨2, ![1536, 180]⟩ : Shape).Idx → EReal)
  (wc : (⟨2, ![5760, 1440]⟩ : Shape).Idx → BitVec 8) (ws : (⟨2, ![360, 180]⟩ : Shape).Idx → EReal)

/-- One term, of byte `j`. -/
def term (f : BitVec 8 → BitVec 8) (r n j : ℕ) : EReal :=
  fp8 (f (at2 0#8 xc r j)) * at2 0 xs r (j / 8) * (fp8 (f (at2 0#8 wc n j)) * at2 0 (WSX ws 360 1536) (n / 16) j)

theorem term_zero (f : BitVec 8 → BitVec 8) (hf : fp8 (f 0#8) = 0) (r n j : ℕ) (hj : 1440 ≤ j) : term xc xs wc ws f r n j = 0 := by
  unfold term
  rw [at2_of_le _ _ hj, hf, zero_mul, zero_mul]

/-- A byte of the arrays: the reference's term, the reference decoding a code to 64 times what its pattern denotes. -/
theorem term_val (f : BitVec 8 → BitVec 8) (d : BitVec 8 → EReal) (hd : ∀ c, d c = fp8 (f c) * ((64 : ℝ) : EReal)) (r : Fin 1536) (n : Fin 5760) (j : Fin 1440) :
    term xc xs wc ws f r.val n.val j.val = (d (xc (ix2 r j)) * xs (ix2 r ⟨j.val / 8, by omega⟩))
      * (d (wc (ix2 n j)) * ws (ix2 ⟨n.val / 16, by omega⟩ ⟨j.val / 8, by omega⟩)) := by
  have hn : n.val / 16 < 360 := by omega
  have hj : j.val / 8 < 180 := by omega
  have hj' : j.val < 1536 := by omega
  have e : at2 0 (WSX ws 360 1536) (n.val / 16) j.val = ws (ix2 ⟨n.val / 16, hn⟩ ⟨j.val / 8, hj⟩) * ((4096 : ℝ) : EReal) := by
    rw [at2_of_lt _ _ hn hj']
    show at2 0 ws (n.val / 16) (j.val / 8) * _ = _
    rw [at2_of_lt _ _ hn hj]
  unfold term
  rw [e, at2_val, at2_val, at2_of_lt _ _ r.isLt hj, hd, hd, term_eq]

theorem dot_eq (r : Fin 1536) (n : Fin 5760) :
    ∑ k : Fin 3072, XD xc xs 1536 3072 (ix2 r k) * WD wc (WSX ws 360 1536) 0 5760 3072 (ix2 n k)
      = ∑ j : Fin 1440, (lo (xc (ix2 r j)) * xs (ix2 r ⟨j.val / 8, by omega⟩)) * (lo (wc (ix2 n j)) * ws (ix2 ⟨n.val / 16, by omega⟩ ⟨j.val / 8, by omega⟩))
        + ∑ j : Fin 1440, (hi (xc (ix2 r j)) * xs (ix2 r ⟨j.val / 8, by omega⟩)) * (hi (wc (ix2 n j)) * ws (ix2 ⟨n.val / 16, by omega⟩ ⟨j.val / 8, by omega⟩)) := by
  have h := sum_tiles (fun k => code xc r.val k * at2 0 xs r.val ((k / 256 * 128 + k % 128) / 8) * (code wc n.val k * at2 0 (WSX ws 360 1536) (n.val / 16) (k / 256 * 128 + k % 128))) 12
  have e0 : ∀ j ∈ Finset.range (128 * 12), code xc r.val (256 * (j / 128) + j % 128) * at2 0 xs r.val (((256 * (j / 128) + j % 128) / 256 * 128 + (256 * (j / 128) + j % 128) % 128) / 8)
      * (code wc n.val (256 * (j / 128) + j % 128) * at2 0 (WSX ws 360 1536) (n.val / 16) ((256 * (j / 128) + j % 128) / 256 * 128 + (256 * (j / 128) + j % 128) % 128))
      = term xc xs wc ws loByte r.val n.val j := fun j _ => by
    unfold code term
    rw [if_pos (by omega), show (256 * (j / 128) + j % 128) / 256 * 128 + (256 * (j / 128) + j % 128) % 128 = j by omega]
  have e1 : ∀ j ∈ Finset.range (128 * 12), code xc r.val (256 * (j / 128) + 128 + j % 128) * at2 0 xs r.val (((256 * (j / 128) + 128 + j % 128) / 256 * 128 + (256 * (j / 128) + 128 + j % 128) % 128) / 8)
      * (code wc n.val (256 * (j / 128) + 128 + j % 128) * at2 0 (WSX ws 360 1536) (n.val / 16) ((256 * (j / 128) + 128 + j % 128) / 256 * 128 + (256 * (j / 128) + 128 + j % 128) % 128))
      = term xc xs wc ws hiByte r.val n.val j := fun j _ => by
    unfold code term
    rw [if_neg (by omega), show (256 * (j / 128) + 128 + j % 128) / 256 * 128 + (256 * (j / 128) + 128 + j % 128) % 128 = j by omega]
  rw [Finset.sum_congr rfl e0, Finset.sum_congr rfl e1, sum_tail _ (term_zero xc xs wc ws loByte fp8_lo_zero r.val n.val),
    sum_tail _ (term_zero xc xs wc ws hiByte fp8_hi_zero r.val n.val), Finset.sum_range] at h
  rw [Finset.sum_congr rfl fun j _ => (term_val xc xs wc ws loByte lo lo_eq r n j).symm, Finset.sum_congr rfl fun j _ => (term_val xc xs wc ws hiByte hi hi_eq r n j).symm, ← h]
  refine Finset.sum_congr rfl fun k _ => ?_
  show code xc r.val k.val * at2 0 xs r.val _ * (code wc n.val k.val * at2 0 (WSX ws 360 1536) (0 + n.val / 16) _) = _
  rw [Nat.zero_add]
  rfl

end Cert.Sums

end
-- ==== Proof.RefValue.lean ====
module

public import proofs.«01_k».proof.Proof.Decode
public import proofs.«01_k».proof.Proof.Gen.ReferenceIdeal.Run
public import Idealize.ShloMosaic.Lib.Pipeline.ValueKit.Geometry
public import Idealize.ShloMosaic.Lib.Pointwise

/-!
# What the reference computes

Its result at an index: the dot product of the low codes plus that of the high codes, scaled.
-/

@[expose] public section

set_option maxRecDepth 16384

noncomputable section

namespace Cert.RefValue

open Idealize.ShloMosaic Idealize.ShloMosaic.TcCoe
open Cert.ReferenceIdeal Cert.ReferenceIdeal.Gen Cert.Decode

variable (m : (ℓ : Loc nD τ sig) → Buf (Elt Ideal) ℓ)

/-- The reference's result, of its arguments. -/
def REF (xc : S6x256x1440.Idx → BitVec 8) (xs : S6x256x180.Idx → EReal) (xg : S2.Idx → EReal) (wc : S5760x1440.Idx → BitVec 8)
    (ws : S360x180.Idx → EReal) (wg : S1.Idx → EReal) (e : Fin 6) (r : Fin 256) (n : Fin 5760) : EReal :=
  (∑ j : Fin 1440, (lo (xc (ix3 e r j)) * xs (ix3 e r ⟨j.val / 8, by omega⟩)) * (lo (wc (ix2 n j)) * ws (ix2 ⟨n.val / 16, by omega⟩ ⟨j.val / 8, by omega⟩))
    + ∑ j : Fin 1440, (hi (xc (ix3 e r j)) * xs (ix3 e r ⟨j.val / 8, by omega⟩)) * (hi (wc (ix2 n j)) * ws (ix2 ⟨n.val / 16, by omega⟩ ⟨j.val / 8, by omega⟩)))
    * xg (ix1 ⟨r.val / 128, by omega⟩) * wg (ix1 0)

/-- A row of the left operand: a code's value times its group's scale. -/
theorem left_at (D : FVec Ideal S6x256x1440 .bf16) (s : FVec Ideal S6x256x180 .bf16) (e : Fin 6) (r : Fin 256) (j : Fin 1440) :
    shapeCast S6x256x1440 (mulf (F := Ideal) (φ := .bf16) (shapeCast S6x256x180x8 D shapeCasts_S6x256x1440_S6x256x180x8)
      (broadcastInDim S6x256x180x8 ![0, 1, 2, 3] bcast_S6x256x180x1_S6x256x180x8_0_1_2_3 (broadcastInDim S6x256x180x1 ![0, 1, 2] bcast_S6x256x180_S6x256x180x1_0_1_2 s)))
      shapeCasts_S6x256x180x8_S6x256x1440 (ix3 e r j) = D (ix3 e r j) * s (ix3 e r ⟨j.val / 8, by omega⟩) := by
  pointwise

/-- A row of the right operand. -/
theorem right_at (D : FVec Ideal S5760x1440 .bf16) (s : FVec Ideal S360x180 .bf16) (n : Fin 5760) (j : Fin 1440) :
    shapeCast S5760x1440 (mulf (F := Ideal) (φ := .bf16) (shapeCast S360x16x180x8 D shapeCasts_S5760x1440_S360x16x180x8)
      (broadcastInDim S360x16x180x8 ![0, 1, 2, 3] bcast_S360x1x180x1_S360x16x180x8_0_1_2_3 (broadcastInDim S360x1x180x1 ![0, 2] bcast_S360x180_S360x1x180x1_0_2 s)))
      shapeCasts_S360x16x180x8_S5760x1440 (ix2 n j) = D (ix2 n j) * s (ix2 ⟨n.val / 16, by omega⟩ ⟨j.val / 8, by omega⟩) := by
  pointwise

/-- The per-token scales at an index: one per 128 tokens. -/
theorem scale_at (xg : FVec Ideal S2 .f32) (e : Fin 6) (r : Fin 256) (n : Fin 5760) :
    broadcastInDim S6x256x5760 ![0, 1, 2] bcast_S1x256x1_S6x256x5760_0_1_2
      (shapeCast S1x256x1 (shapeCast S256 (broadcastInDim S2x128 ![0] bcast_S2_S2x128_0 xg) shapeCasts_S2x128_S256) shapeCasts_S256_S1x256x1) (ix3 e r n)
      = xg (ix1 ⟨r.val / 128, by omega⟩) := by
  pointwise

/-- The one tensor scale, at every index. -/
theorem tensor_scale_at (wg : FVec Ideal S1 .f32) (y : S6x256x5760.Idx) :
    broadcastInDim S6x256x5760 ![] bcast_S_S6x256x5760 (shapeCast S_ wg shapeCasts_S1_S_) y = wg (ix1 0) := by
  pointwise

/-- A product at an index: a sum over the packed codes. -/
theorem dot_at (A : FVec Ideal S6x256x1440 .bf16) (B : FVec Ideal S5760x1440 .bf16) (e : Fin 6) (r : Fin 256) (n : Fin 5760) :
    Host.dotGeneral (F := Ideal) (φ₁ := .bf16) (φ₂ := .bf16) dot_S6x256x1440_S5760x1440_S6x256x5760_2_1_01_0_n_n none A B (ix3 e r n) = ∑ j : Fin 1440, A (ix3 e r j) * B (ix2 n j) := by
  pointwise

theorem hz3 : (![0, 0, 0] : Fin 3 → ℕ) = fun _ => 0 := by decide

theorem hz2 : (![0, 0] : Fin 2 → ℕ) = fun _ => 0 := by decide

theorem index0 : ∀ t : Fin grid0.N, win0_0.index t = ![0, 0, 0] := by decide +kernel
theorem index1 : ∀ t : Fin grid0.N, win0_1.index t = ![0, 0] := by decide +kernel
theorem index2 : ∀ t : Fin grid0.N, win0_2.index t = ![0, 0, 0] := by decide +kernel
theorem index3 : ∀ t : Fin grid0.N, win0_3.index t = ![0, 0] := by decide +kernel

/-- The left operand's scales, cast. -/
theorem scales_left (c : Dev nD) : Value.reg_main_v0_0 m c = m ((c.tc : Thread nD τ).loc main_arg1) := by
  unfold Value.reg_main_v0_0
  refine (dats m 0 c).arrAt_eq_of_covers 2 _ (by decide +kernel) fun t hf y => ?_
  blk_simp
  rw [after0_2]
  unfold out0_2
  rw [View.canon_unit_zero hz3, View.ld_unit_zero (S := S6x256x180) hz3]
  show iblk m c 0 t y = _
  blk_simp [iblk]
  refine congrArg _ ?_
  blk_ext [index0, index2]

/-- The right operand's scales, cast. -/
theorem scales_right (c : Dev nD) : Value.reg_main_v0_1 m c = m ((c.tc : Thread nD τ).loc main_arg4) := by
  unfold Value.reg_main_v0_1
  refine (dats m 0 c).arrAt_eq_of_covers 3 _ (by decide +kernel) fun t hf y => ?_
  blk_simp
  rw [after0_3]
  unfold out0_3
  rw [View.canon_unit_zero hz2, View.ld_unit_zero (S := S360x180) hz2]
  show iblk m c 1 t y = _
  blk_simp [iblk]
  refine congrArg _ ?_
  blk_ext [index1, index3]

/-- The values of the low nibbles of the left codes. -/
def leftLow (c : Dev nD) : FVec Ideal S6x256x1440 .bf16 :=
  select (cmpi .ne (andi (Value.res_main_v4 (Value.exitV m c)) (broadcastInDim S6x256x1440 ![] bcast_S_S6x256x1440 (constantI S_ 32 8#32))) (broadcastInDim S6x256x1440 ![] bcast_S_S6x256x1440 (constantI S_ 32 0#32))) (Host.negf (Value.res_main_v35 (Value.exitV m c))) (Value.res_main_v35 (Value.exitV m c))

/-- One of them, of the code. -/
theorem leftLow_at (c : Dev nD) (y : S6x256x1440.Idx) : leftLow m c y = lo (m ((c.tc : Thread nD τ).loc main_arg0) y) := rfl

/-- The values of the low nibbles of the right codes. -/
def rightLow (c : Dev nD) : FVec Ideal S5760x1440 .bf16 :=
  select (cmpi .ne (andi (Value.res_main_v84 (Value.exitV m c)) (broadcastInDim S5760x1440 ![] bcast_S_S5760x1440 (constantI S_ 32 8#32))) (broadcastInDim S5760x1440 ![] bcast_S_S5760x1440 (constantI S_ 32 0#32))) (Host.negf (Value.res_main_v115 (Value.exitV m c))) (Value.res_main_v115 (Value.exitV m c))

/-- One of them, of the code. -/
theorem rightLow_at (c : Dev nD) (y : S5760x1440.Idx) : rightLow m c y = lo (m ((c.tc : Thread nD τ).loc main_arg3) y) := rfl

/-- The values of the high nibbles of the left codes. -/
def leftHigh (c : Dev nD) : FVec Ideal S6x256x1440 .bf16 :=
  select (cmpi .ne (andi (Value.res_main_v44 (Value.exitV m c)) (broadcastInDim S6x256x1440 ![] bcast_S_S6x256x1440 (constantI S_ 32 8#32))) (broadcastInDim S6x256x1440 ![] bcast_S_S6x256x1440 (constantI S_ 32 0#32))) (Host.negf (Value.res_main_v75 (Value.exitV m c))) (Value.res_main_v75 (Value.exitV m c))

/-- One of them, of the code. -/
theorem leftHigh_at (c : Dev nD) (y : S6x256x1440.Idx) : leftHigh m c y = hi (m ((c.tc : Thread nD τ).loc main_arg0) y) := rfl

/-- The values of the high nibbles of the right codes. -/
def rightHigh (c : Dev nD) : FVec Ideal S5760x1440 .bf16 :=
  select (cmpi .ne (andi (Value.res_main_v124 (Value.exitV m c)) (broadcastInDim S5760x1440 ![] bcast_S_S5760x1440 (constantI S_ 32 8#32))) (broadcastInDim S5760x1440 ![] bcast_S_S5760x1440 (constantI S_ 32 0#32))) (Host.negf (Value.res_main_v155 (Value.exitV m c))) (Value.res_main_v155 (Value.exitV m c))

/-- One of them, of the code. -/
theorem rightHigh_at (c : Dev nD) (y : S5760x1440.Idx) : rightHigh m c y = hi (m ((c.tc : Thread nD τ).loc main_arg3) y) := rfl

/-- The reference's result, as its run states it. -/
def result (c : Dev nD) : FVec Ideal S6x256x5760 .bf16 :=
  truncf .bf16 (mulf (mulf (addf (Host.dotGeneral dot_S6x256x1440_S5760x1440_S6x256x5760_2_1_01_0_n_n none (shapeCast _ (mulf (shapeCast _ (leftLow m c) shapeCasts_S6x256x1440_S6x256x180x8) (broadcastInDim S6x256x180x8 ![0, 1, 2, 3] bcast_S6x256x180x1_S6x256x180x8_0_1_2_3 (broadcastInDim S6x256x180x1 ![0, 1, 2] bcast_S6x256x180_S6x256x180x1_0_1_2 ((Value.exitV m c) (Proc.devRef .tc main_v0_0))))) shapeCasts_S6x256x180x8_S6x256x1440) (shapeCast _ (mulf (shapeCast _ (rightLow m c) shapeCasts_S5760x1440_S360x16x180x8) (broadcastInDim S360x16x180x8 ![0, 1, 2, 3] bcast_S360x1x180x1_S360x16x180x8_0_1_2_3 (broadcastInDim S360x1x180x1 ![0, 2] bcast_S360x180_S360x1x180x1_0_2 ((Value.exitV m c) (Proc.devRef .tc main_v0_1))))) shapeCasts_S360x16x180x8_S5760x1440)) (Host.dotGeneral dot_S6x256x1440_S5760x1440_S6x256x5760_2_1_01_0_n_n none (shapeCast _ (mulf (shapeCast _ (leftHigh m c) shapeCasts_S6x256x1440_S6x256x180x8) (broadcastInDim S6x256x180x8 ![0, 1, 2, 3] bcast_S6x256x180x1_S6x256x180x8_0_1_2_3 (broadcastInDim S6x256x180x1 ![0, 1, 2] bcast_S6x256x180_S6x256x180x1_0_1_2 ((Value.exitV m c) (Proc.devRef .tc main_v0_0))))) shapeCasts_S6x256x180x8_S6x256x1440) (shapeCast _ (mulf (shapeCast _ (rightHigh m c) shapeCasts_S5760x1440_S360x16x180x8) (broadcastInDim S360x16x180x8 ![0, 1, 2, 3] bcast_S360x1x180x1_S360x16x180x8_0_1_2_3 (broadcastInDim S360x1x180x1 ![0, 2] bcast_S360x180_S360x1x180x1_0_2 ((Value.exitV m c) (Proc.devRef .tc main_v0_1))))) shapeCasts_S360x16x180x8_S5760x1440))) (broadcastInDim S6x256x5760 ![0, 1, 2] bcast_S1x256x1_S6x256x5760_0_1_2 (shapeCast _ (shapeCast _ (broadcastInDim S2x128 ![0] bcast_S2_S2x128_0 ((Value.exitV m c) (Proc.devRef .tc main_arg2))) shapeCasts_S2x128_S256) shapeCasts_S256_S1x256x1))) (broadcastInDim S6x256x5760 ![] bcast_S_S6x256x5760 (shapeCast _ ((Value.exitV m c) (Proc.devRef .tc main_arg5)) shapeCasts_S1_S_))) bitsLt_bf16_f32

/-- The two products added and scaled, at an index. -/
theorem scaled_at (P Q X Y : FVec Ideal S6x256x5760 .f32) (y : S6x256x5760.Idx) :
    truncf .bf16 (mulf (mulf (addf P Q) X) Y) bitsLt_bf16_f32 y = (P y + Q y) * X y * Y y := rfl

/-- The reference's result at an index, of its arguments. -/
theorem result_at (c : Dev nD) (e : Fin 6) (r : Fin 256) (n : Fin 5760) :
    result m c (ix3 e r n) = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) e r n := by
  unfold result REF
  rw [Value.exit_main_v0_0, Value.exit_main_v0_1, Value.exit_main_arg2, Value.exit_main_arg5, scales_left, scales_right]
  rw [scaled_at, dot_at, dot_at, scale_at, tensor_scale_at]
  refine congrArg (fun z => z * _ * _) (congrArg₂ (· + ·) (Finset.sum_congr rfl fun j _ => ?_) (Finset.sum_congr rfl fun j _ => ?_))
  · rw [left_at, right_at, leftLow_at, rightLow_at]
  · rw [left_at, right_at, leftHigh_at, rightHigh_at]

end Cert.RefValue
-- ==== Proof.KernelValue.lean ====
module

public import proofs.«01_k».proof.Proof.Array
public import proofs.«01_k».proof.Proof.Sums
public import proofs.«01_k».proof.Proof.RefValue

/-!
# The kernel's result is the reference's

The kernel's output array, reshaped, at an index: the reference's formula, of the same arguments.
-/

@[expose] public section

set_option maxRecDepth 16384

noncomputable section

namespace Cert.KernelValue

open Idealize.ShloMosaic Idealize.ShloMosaic.TcCoe Idealize.ShloMosaic.StableHlo
open Cert.KernelIdeal Cert.KernelIdeal.Gen Cert.Decode Cert.KernelArray Cert.Sums Cert.Tile

variable (m : (ℓ : Loc nD τ sig) → Buf (Elt Ideal) ℓ)

/-- The codes the region reads are the argument's, reshaped. -/
theorem codes_eq (c : Dev nD) : V m c main_v0 = shapeCast S1536x1440 (m ((c.tc : Thread nD τ).loc main_arg0)) shapeCasts_S6x256x1440_S1536x1440 := by
  show StableHlo.after (List.flatten [hostOps0]) (fun b => m (c, b)) (Proc.devRef .tc main_v0) = _
  simp only [hostOps0, List.flatten_cons, List.flatten_nil, List.append_nil, List.cons_append, List.nil_append]
  after_results <;> rfl

/-- The scales the region reads are the argument's, reshaped. -/
theorem scales_eq (c : Dev nD) : V m c main_v1 = shapeCast S1536x180 (m ((c.tc : Thread nD τ).loc main_arg1)) shapeCasts_S6x256x180_S1536x180 := by
  show StableHlo.after (List.flatten [hostOps0]) (fun b => m (c, b)) (Proc.devRef .tc main_v1) = _
  simp only [hostOps0, List.flatten_cons, List.flatten_nil, List.append_nil, List.cons_append, List.nil_append]
  after_results <;> rfl

/-- A reshaped array of codes at a row. -/
theorem codes_at (x : Vec Ideal S6x256x1440 .i8) (e : Fin 6) (r : Fin 256) (j : Fin 1440) (h : 256 * e.val + r.val < 1536) :
    shapeCast S1536x1440 x shapeCasts_S6x256x1440_S1536x1440 (ix2 ⟨256 * e.val + r.val, h⟩ j) = x (ix3 e r j) := by
  pointwise

/-- A reshaped array of scales at a row. -/
theorem scales_at (x : FVec Ideal S6x256x180 .bf16) (e : Fin 6) (r : Fin 256) (j : Fin 180) (h : 256 * e.val + r.val < 1536) :
    shapeCast S1536x180 x shapeCasts_S6x256x180_S1536x180 (ix2 ⟨256 * e.val + r.val, h⟩ j) = x (ix3 e r j) := by
  pointwise

/-- The reshaped result at an index. -/
theorem result_at (x : FVec Ideal S1536x5760 .bf16) (e : Fin 6) (r : Fin 256) (n : Fin 5760) (h : 256 * e.val + r.val < 1536) :
    shapeCast S6x256x5760 x shapeCasts_S1536x5760_S6x256x5760 (ix3 e r n) = x (ix2 ⟨256 * e.val + r.val, h⟩ n) := by
  pointwise
  exact congrArg x (congrArg (fun a => ix2 a n) (Fin.ext (by show e.val * 256 + r.val = 256 * e.val + r.val; omega)))

/-- The output array's formula at a row of an expert: the reference's. -/
theorem G_at (xc : Vec Ideal S6x256x1440 .i8) (xs : FVec Ideal S6x256x180 .bf16) (xg : S2.Idx → EReal) (wc : S5760x1440.Idx → BitVec 8)
    (ws : S360x180.Idx → EReal) (wg : S1.Idx → EReal) (e : Fin 6) (r : Fin 256) (n : Fin 5760) (h : 256 * e.val + r.val < 1536) :
    G (shapeCast S1536x1440 xc shapeCasts_S6x256x1440_S1536x1440) (shapeCast S1536x180 xs shapeCasts_S6x256x180_S1536x180) wc ws xg wg (ix2 ⟨256 * e.val + r.val, h⟩ n)
      = Cert.RefValue.REF xc xs xg wc ws wg e r n := by
  unfold G Cert.RefValue.REF
  refine congrArg₂ _ (congrArg₂ _ ((dot_eq _ _ wc ws ⟨256 * e.val + r.val, h⟩ n).trans ?_) (congrArg xg (congrArg ix1 (Fin.ext ?_)))) rfl
  · refine congrArg₂ _ (Finset.sum_congr rfl fun j _ => ?_) (Finset.sum_congr rfl fun j _ => ?_)
    · rw [codes_at xc e r j h, scales_at xs e r _ h]
    · rw [codes_at xc e r j h, scales_at xs e r _ h]
  · show (256 * e.val + r.val) / 128 % 2 = r.val / 128
    have hr := r.isLt
    omega

/-- The kernel's result, of the launch contents. -/
theorem kernel_at (c : Dev nD) (e : Fin 6) (r : Fin 256) (n : Fin 5760) :
    shapeCast S6x256x5760 (Value.reg_main_v2 m c) shapeCasts_S1536x5760_S6x256x5760 (ix3 e r n)
      = Cert.RefValue.REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) e r n := by
  have h : 256 * e.val + r.val < 1536 := by omega
  rw [result_at _ e r n h, array_eq, codes_eq, scales_eq, V_main_arg2, V_main_arg3, V_main_arg4, V_main_arg5]
  exact G_at _ _ _ _ _ _ e r n h

end Cert.KernelValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Run
public import proofs.«01_k».proof.Proof.Gen.ReferenceIdeal.Run
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- The kernel ends without fault, its arguments unchanged and its counters at zero. -/
theorem frame_P : Cert.quiescent_Kernel := fun m ρ _ => Cert.Kernel.Gen.frame m ρ

/-- So does the kernel over the extended reals. -/
theorem frame_PI : Cert.quiescent_KernelIdeal := fun m ρ _ => Cert.KernelIdeal.Gen.frame m ρ

/-- So does the reference over the extended reals. -/
theorem frame_RI : Cert.quiescent_ReferenceIdeal := fun m ρ _ => Cert.ReferenceIdeal.Gen.frame m ρ

/-- No operation was rewritten: the ideal program is the kernel's own text. -/
theorem preserves : Cert.preserves_Kernel_KernelIdeal := trivial

/-- The kernel and the reference end with equal results. -/
theorem algebraic : Cert.algebraic_KernelIdeal_ReferenceIdeal := by
  intro m ρ m' ρ' _ hagree
  refine ⟨fun c => shapeCast Cert.KernelIdeal.S6x256x5760 (Cert.KernelIdeal.Value.reg_main_v2 m c) Cert.KernelIdeal.Gen.shapeCasts_S1536x5760_S6x256x5760,
    Cert.KernelIdeal.Value.run (F := Ideal) m ρ, ?_⟩
  refine (θ_run Cert.ReferenceIdeal.defs _ _).mono (fun _ h c => ?_) (Cert.ReferenceIdeal.Value.run (F := Ideal) m' ρ')
  refine ⟨(h c).1.trans ?_, (h c).2⟩
  show Cert.RefValue.result m' c = _
  funext y
  obtain ⟨e, r, n, rfl⟩ : ∃ (e : Fin 6) (r : Fin 256) (n : Fin 5760), y = ix3 e r n := ⟨y 0, y 1, y 2, eq_ix3 y⟩
  refine (Cert.RefValue.result_at m' c e r n).trans (Eq.trans ?_ (Cert.KernelValue.kernel_at m c e r n).symm)
  obtain ⟨h0, h1, h2, h3, h4, h5⟩ := hagree c
  rw [h0, h1, h2, h3, h4, h5]

/-- All the claims. -/
theorem claim : Cert.Claim := ⟨Cert.Kernel.Gen.facts, Cert.KernelIdeal.Gen.facts, Cert.ReferenceIdeal.Gen.facts,
  frame_P, frame_PI, frame_RI, preserves, algebraic⟩

end Cert.Proof

end
